-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 512, 512]⟩ ⟨3, ![2, 512, 512]⟩ (Layout.meshBlock [2, 2, 4] ![[0], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x512x512 : Shape := ⟨3, ![1, 512, 512]⟩
abbrev S512x512 : Shape := ⟨2, ![512, 512]⟩
abbrev S512 : Shape := ⟨1, ![512]⟩
abbrev S1x512 : Shape := ⟨2, ![1, 512]⟩
abbrev S256x512 : Shape := ⟨2, ![256, 512]⟩
abbrev S2x256x512 : Shape := ⟨3, ![2, 256, 512]⟩
abbrev S8 : Shape := ⟨1, ![8]⟩
abbrev S_ : Shape := ⟨0, ![]⟩
abbrev S1 : Shape := ⟨1, ![1]⟩
abbrev S1x32x512 : Shape := ⟨3, ![1, 32, 512]⟩
abbrev S32x512 : Shape := ⟨2, ![32, 512]⟩
abbrev S32 : Shape := ⟨1, ![32]⟩
abbrev S32x1 : Shape := ⟨2, ![32, 1]⟩

abbrev nBuf : Space → Nat
  | .hbm => 6
  | .vmem => 7
  | .smem => 0
  | _ => 0

abbrev bufTy : (tb : Table) → Fin (tcTables nBuf tb) → BufTy
  | .hbm, ⟨0, _⟩ => ⟨S1x512x512, .f32⟩
  | .hbm, ⟨1, _⟩ => ⟨S512x512, .f32⟩
  | .hbm, ⟨2, _⟩ => ⟨S512, .f32⟩
  | .hbm, ⟨3, _⟩ => ⟨S512x512, .f32⟩
  | .hbm, ⟨4, _⟩ => ⟨S1x512, .f32⟩
  | .hbm, ⟨5, _⟩ => ⟨S512x512, .f32⟩
  | .local _ .vmem, ⟨0, _⟩ => ⟨S512x512, .f32⟩
  | .local _ .vmem, ⟨1, _⟩ => ⟨S512x512, .f32⟩
  | .local _ .vmem, ⟨2, _⟩ => ⟨S1x512, .f32⟩
  | .local _ .vmem, ⟨3, _⟩ => ⟨S512x512, .f32⟩
  | .local _ .vmem, ⟨4, _⟩ => ⟨S256x512, .bf16⟩
  | .local _ .vmem, ⟨5, _⟩ => ⟨S2x256x512, .bf16⟩
  | .local _ .vmem, ⟨6, _⟩ => ⟨S512x512, .f32⟩
  | _, _ => ⟨S1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  (ofTc nBuf bufTy 1 36 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_5 : BitVec 32 := 8#32
  let v12 : BitVec 32 := Scalar.muli v9 c8_i32_5
  let v13 : BitVec 32 := Scalar.addi c0_i32 v12
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_6 : BitVec 32 := 4#32
  let v14 : BitVec 32 := Scalar.muli v5 c4_i32_6
  let v15 : BitVec 32 := Scalar.addi v13 v14
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 32 := Scalar.muli v8 c1_i32_7
  let v17 : BitVec 32 := Scalar.addi v15 v16
  v17.toNat
def k0_dev2 (d0 : Dev nD) : Nat :=
  let c0_i32_10 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_9 : BitVec 32 := 8#32
  let v18 : BitVec 32 := Scalar.muli v2 c8_i32_9
  let v19 : BitVec 32 := Scalar.addi c0_i32_10 v18
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_11 : BitVec 32 := 4#32
  let v20 : BitVec 32 := Scalar.muli v10 c4_i32_11
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_12 : BitVec 32 := 1#32
  let v22 : BitVec 32 := Scalar.muli v8 c1_i32_12
  let v23 : BitVec 32 := Scalar.addi v21 v22
  v23.toNat
def k0_off1 (d0 : Dev nD) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c256_i32 : BitVec 32 := 256#32
  let v24 : BitVec 32 := Scalar.muli v5 c256_i32
  let v25 : Index := Scalar.indexCast v24
  let c0 : Index := 0#32
  ![v25.toNat, 0]
def k0_dev3 (d0 : Dev nD) : Nat :=
  let c0_i32_20 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_19 : BitVec 32 := 8#32
  let v32 : BitVec 32 := Scalar.muli v9 c8_i32_19
  let v33 : BitVec 32 := Scalar.addi c0_i32_20 v32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_21 : BitVec 32 := 4#32
  let v34 : BitVec 32 := Scalar.muli v5 c4_i32_21
  let v35 : BitVec 32 := Scalar.addi v33 v34
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v36 : BitVec 32 := Scalar.muli v8 c1_i32_22
  let v37 : BitVec 32 := Scalar.addi v35 v36
  v37.toNat
def k0_dev4 (d0 : Dev nD) : Nat :=
  let c0_i32_31 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_30 : BitVec 32 := 8#32
  let v45 : BitVec 32 := Scalar.muli v9 c8_i32_30
  let v46 : BitVec 32 := Scalar.addi c0_i32_31 v45
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_32 : BitVec 32 := 4#32
  let v47 : BitVec 32 := Scalar.muli v5 c4_i32_32
  let v48 : BitVec 32 := Scalar.addi v46 v47
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_33 : BitVec 32 := 1#32
  let v49 : BitVec 32 := Scalar.muli v8 c1_i32_33
  let v50 : BitVec 32 := Scalar.addi v48 v49
  v50.toNat
def k0_dev5 (d0 : Dev nD) : Nat :=
  let c0_i32_41 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_40 : BitVec 32 := 8#32
  let v58 : BitVec 32 := Scalar.muli v9 c8_i32_40
  let v59 : BitVec 32 := Scalar.addi c0_i32_41 v58
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_42 : BitVec 32 := 4#32
  let v60 : BitVec 32 := Scalar.muli v5 c4_i32_42
  let v61 : BitVec 32 := Scalar.addi v59 v60
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_43 : BitVec 32 := 1#32
  let v62 : BitVec 32 := Scalar.muli v8 c1_i32_43
  let v63 : BitVec 32 := Scalar.addi v61 v62
  v63.toNat
def k0_dev6 (d0 : Dev nD) : Nat :=
  let c0_i32_50 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_49 : BitVec 32 := 8#32
  let v71 : BitVec 32 := Scalar.muli v9 c8_i32_49
  let v72 : BitVec 32 := Scalar.addi c0_i32_50 v71
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_51 : BitVec 32 := 4#32
  let v73 : BitVec 32 := Scalar.muli v5 c4_i32_51
  let v74 : BitVec 32 := Scalar.addi v72 v73
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_52 : BitVec 32 := 1#32
  let v75 : BitVec 32 := Scalar.muli v8 c1_i32_52
  let v76 : BitVec 32 := Scalar.addi v74 v75
  v76.toNat
def k0_dev7 (d0 : Dev nD) : Nat :=
  let c0_i32_60 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_59 : BitVec 32 := 8#32
  let v84 : BitVec 32 := Scalar.muli v9 c8_i32_59
  let v85 : BitVec 32 := Scalar.addi c0_i32_60 v84
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_61 : BitVec 32 := 4#32
  let v86 : BitVec 32 := Scalar.muli v5 c4_i32_61
  let v87 : BitVec 32 := Scalar.addi v85 v86
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_62 : BitVec 32 := 1#32
  let v88 : BitVec 32 := Scalar.muli v8 c1_i32_62
  let v89 : BitVec 32 := Scalar.addi v87 v88
  v89.toNat
def k0_dev8 (d0 : Dev nD) : Nat :=
  let c0_i32_69 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_68 : BitVec 32 := 8#32
  let v97 : BitVec 32 := Scalar.muli v9 c8_i32_68
  let v98 : BitVec 32 := Scalar.addi c0_i32_69 v97
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_70 : BitVec 32 := 4#32
  let v99 : BitVec 32 := Scalar.muli v5 c4_i32_70
  let v100 : BitVec 32 := Scalar.addi v98 v99
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_71 : BitVec 32 := 1#32
  let v101 : BitVec 32 := Scalar.muli v8 c1_i32_71
  let v102 : BitVec 32 := Scalar.addi v100 v101
  v102.toNat
def k0_dev9 (d0 : Dev nD) : Nat :=
  let c0_i32_78 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_77 : BitVec 32 := 8#32
  let v110 : BitVec 32 := Scalar.muli v9 c8_i32_77
  let v111 : BitVec 32 := Scalar.addi c0_i32_78 v110
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_79 : BitVec 32 := 4#32
  let v112 : BitVec 32 := Scalar.muli v5 c4_i32_79
  let v113 : BitVec 32 := Scalar.addi v111 v112
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_80 : BitVec 32 := 1#32
  let v114 : BitVec 32 := Scalar.muli v8 c1_i32_80
  let v115 : BitVec 32 := Scalar.addi v113 v114
  v115.toNat
def k0_dev10 (d0 : Dev nD) : Nat :=
  let c0_i32_87 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_86 : BitVec 32 := 8#32
  let v123 : BitVec 32 := Scalar.muli v9 c8_i32_86
  let v124 : BitVec 32 := Scalar.addi c0_i32_87 v123
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_88 : BitVec 32 := 4#32
  let v125 : BitVec 32 := Scalar.muli v5 c4_i32_88
  let v126 : BitVec 32 := Scalar.addi v124 v125
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_89 : BitVec 32 := 1#32
  let v127 : BitVec 32 := Scalar.muli v8 c1_i32_89
  let v128 : BitVec 32 := Scalar.addi v126 v127
  v128.toNat
def k0_dev11 (d0 : Dev nD) : Nat :=
  let c0_i32_115 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_114 : BitVec 32 := 8#32
  let v155 : BitVec 32 := Scalar.muli v2 c8_i32_114
  let v156 : BitVec 32 := Scalar.addi c0_i32_115 v155
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_116 : BitVec 32 := 4#32
  let v157 : BitVec 32 := Scalar.muli v10 c4_i32_116
  let v158 : BitVec 32 := Scalar.addi v156 v157
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_117 : BitVec 32 := 1#32
  let v159 : BitVec 32 := Scalar.muli v8 c1_i32_117
  let v160 : BitVec 32 := Scalar.addi v158 v159
  v160.toNat
def k0_off2 (d0 : Dev nD) (c0_i32_122 : BitVec 32) : Fin 2 → Nat :=
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c256_i32 : BitVec 32 := 256#32
  let v24 : BitVec 32 := Scalar.muli v5 c256_i32
  let v169 : BitVec 32 := Scalar.addi v24 c0_i32_122
  let v170 : Index := Scalar.indexCast v169
  let c0_123 : Index := 0#32
  ![v170.toNat, 0]
def k0_dev12 (d0 : Dev nD) : Nat :=
  let c0_i32_149 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_148 : BitVec 32 := 8#32
  let v204 : BitVec 32 := Scalar.muli v2 c8_i32_148
  let v205 : BitVec 32 := Scalar.addi c0_i32_149 v204
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_150 : BitVec 32 := 4#32
  let v206 : BitVec 32 := Scalar.muli v10 c4_i32_150
  let v207 : BitVec 32 := Scalar.addi v205 v206
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_151 : BitVec 32 := 1#32
  let v208 : BitVec 32 := Scalar.muli v8 c1_i32_151
  let v209 : BitVec 32 := Scalar.addi v207 v208
  v209.toNat
def k0_dev13 (d0 : Dev nD) : Nat :=
  let c0_i32_183 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_182 : BitVec 32 := 8#32
  let v253 : BitVec 32 := Scalar.muli v2 c8_i32_182
  let v254 : BitVec 32 := Scalar.addi c0_i32_183 v253
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_184 : BitVec 32 := 4#32
  let v255 : BitVec 32 := Scalar.muli v10 c4_i32_184
  let v256 : BitVec 32 := Scalar.addi v254 v255
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_185 : BitVec 32 := 1#32
  let v257 : BitVec 32 := Scalar.muli v8 c1_i32_185
  let v258 : BitVec 32 := Scalar.addi v256 v257
  v258.toNat
def k0_dev14 (d0 : Dev nD) : Nat :=
  let c0_i32_217 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_216 : BitVec 32 := 8#32
  let v302 : BitVec 32 := Scalar.muli v2 c8_i32_216
  let v303 : BitVec 32 := Scalar.addi c0_i32_217 v302
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_218 : BitVec 32 := 4#32
  let v304 : BitVec 32 := Scalar.muli v10 c4_i32_218
  let v305 : BitVec 32 := Scalar.addi v303 v304
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_219 : BitVec 32 := 1#32
  let v306 : BitVec 32 := Scalar.muli v8 c1_i32_219
  let v307 : BitVec 32 := Scalar.addi v305 v306
  v307.toNat
def k0_dev15 (d0 : Dev nD) : Nat :=
  let c0_i32_251 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_250 : BitVec 32 := 8#32
  let v351 : BitVec 32 := Scalar.muli v2 c8_i32_250
  let v352 : BitVec 32 := Scalar.addi c0_i32_251 v351
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_252 : BitVec 32 := 4#32
  let v353 : BitVec 32 := Scalar.muli v10 c4_i32_252
  let v354 : BitVec 32 := Scalar.addi v352 v353
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_253 : BitVec 32 := 1#32
  let v355 : BitVec 32 := Scalar.muli v8 c1_i32_253
  let v356 : BitVec 32 := Scalar.addi v354 v355
  v356.toNat
def k0_dev16 (d0 : Dev nD) : Nat :=
  let c0_i32_285 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_284 : BitVec 32 := 8#32
  let v400 : BitVec 32 := Scalar.muli v2 c8_i32_284
  let v401 : BitVec 32 := Scalar.addi c0_i32_285 v400
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_286 : BitVec 32 := 4#32
  let v402 : BitVec 32 := Scalar.muli v10 c4_i32_286
  let v403 : BitVec 32 := Scalar.addi v401 v402
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_287 : BitVec 32 := 1#32
  let v404 : BitVec 32 := Scalar.muli v8 c1_i32_287
  let v405 : BitVec 32 := Scalar.addi v403 v404
  v405.toNat
def k0_dev17 (d0 : Dev nD) : Nat :=
  let c0_i32_319 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_318 : BitVec 32 := 8#32
  let v449 : BitVec 32 := Scalar.muli v2 c8_i32_318
  let v450 : BitVec 32 := Scalar.addi c0_i32_319 v449
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_320 : BitVec 32 := 4#32
  let v451 : BitVec 32 := Scalar.muli v10 c4_i32_320
  let v452 : BitVec 32 := Scalar.addi v450 v451
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_321 : BitVec 32 := 1#32
  let v453 : BitVec 32 := Scalar.muli v8 c1_i32_321
  let v454 : BitVec 32 := Scalar.addi v452 v453
  v454.toNat
def k0_dev18 (d0 : Dev nD) : Nat :=
  let c0_i32_353 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_352 : BitVec 32 := 8#32
  let v498 : BitVec 32 := Scalar.muli v2 c8_i32_352
  let v499 : BitVec 32 := Scalar.addi c0_i32_353 v498
  let c1_i32_3 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.subi c1_i32_3 v5
  let c4_i32_354 : BitVec 32 := 4#32
  let v500 : BitVec 32 := Scalar.muli v10 c4_i32_354
  let v501 : BitVec 32 := Scalar.addi v499 v500
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_355 : BitVec 32 := 1#32
  let v502 : BitVec 32 := Scalar.muli v8 c1_i32_355
  let v503 : BitVec 32 := Scalar.addi v501 v502
  v503.toNat
def k0_off3 (d0 : Dev nD) (c0_i32_385 : BitVec 32) : Fin 2 → Nat :=
  let c1_i32_371 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v536 : BitVec 32 := Scalar.subi c1_i32_371 v5
  let c256_i32_372 : BitVec 32 := 256#32
  let v537 : BitVec 32 := Scalar.muli v536 c256_i32_372
  let v550 : BitVec 32 := Scalar.addi v537 c0_i32_385
  let v551 : Index := Scalar.indexCast v550
  let c0_386 : Index := 0#32
  ![v551.toNat, 0]
abbrev stage0_0 : Fin 1 → Memref sig .tc .vmem S512x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2x512x512 : Shape := ⟨3, ![2, 512, 512]⟩
abbrev S512x512 : Shape := ⟨2, ![512, 512]⟩
abbrev S512 : Shape := ⟨1, ![512]⟩
abbrev S_ : Shape := ⟨0, ![]⟩
abbrev S512x1 : Shape := ⟨2, ![512, 1]⟩
abbrev S1x512 : Shape := ⟨2, ![1, 512]⟩

abbrev nBuf : Space → Nat
  | .hbm => 22
  | .vmem => 0
  | .smem => 0
  | _ => 0

abbrev bufTy : (tb : Table) → Fin (tcTables nBuf tb) → BufTy
  | .hbm, ⟨0, _⟩ => ⟨S2x512x512, .f32⟩
  | .hbm, ⟨1, _⟩ => ⟨S512x512, .f32⟩
  | .hbm, ⟨2, _⟩ => ⟨S512, .f32⟩
  | .hbm, ⟨3, _⟩ => ⟨S_, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S_, .f32⟩
  | .hbm, ⟨8, _⟩ => ⟨S512, .f32⟩
  | .hbm, ⟨9, _⟩ => ⟨S512x1, .f32⟩
  | .hbm, ⟨10, _⟩ => ⟨S_, .f32⟩
  | .hbm, ⟨11, _⟩ => ⟨S512x1, .f32⟩
  | .hbm, ⟨12, _⟩ => ⟨S512x1, .f32⟩
  | .hbm, ⟨13, _⟩ => ⟨S_, .f32⟩
  | .hbm, ⟨14, _⟩ => ⟨S512x1, .f32⟩
  | .hbm, ⟨15, _⟩ => ⟨S512x1, .f32⟩
  | .hbm, ⟨16, _⟩ => ⟨S512x1, .f32⟩
  | .hbm, ⟨17, _⟩ => ⟨S512x512, .f32⟩
  | .hbm, ⟨18, _⟩ => ⟨S512x512, .f32⟩
  | .hbm, ⟨19, _⟩ => ⟨S1x512, .f32⟩
  | .hbm, ⟨20, _⟩ => ⟨S512x512, .f32⟩
  | .hbm, ⟨21, _⟩ => ⟨S512x512, .f32⟩
  | _, _ => ⟨S2x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Program.lean ====
/-
  The kernel body of `KernelIdeal` as four loops over the eight chunks of 32 rows.

  The printed body is straight-line: the source's Python loops over `c` are unrolled. Here its windows and semaphores
  are named by the chunk number `k`, its phases are written as `each`-loops over `k`, and `body_eq` states that the
  printed body is exactly that program after it has read its device id.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Regions

@[expose] public section

noncomputable section

namespace Cert.AllReduceNorm

open Cert.KernelIdeal Cert.KernelIdeal.Gen
open Idealize.ShloMosaic Idealize.ShloMosaic.TcCoe
open Idealize.SL Idealize.SL.Sem

variable {F : FTy → Type} [FloatOps F]

/-! ## The buffers -/

/-- The staged operands `x`, `resid`, `g`, the staged result, and the three scratch buffers. -/
abbrev xM : Memref sig .tc .vmem S512x512 .f32 := Memref.whole cc0_stg0_0
abbrev resM : Memref sig .tc .vmem S512x512 .f32 := Memref.whole cc0_stg1_0
abbrev gM : Memref sig .tc .vmem S1x512 .f32 := Memref.whole cc0_stg2_0
abbrev oM : Memref sig .tc .vmem S512x512 .f32 := Memref.whole cc0_stg3_0
abbrev sM : Memref sig .tc .vmem S256x512 .bf16 := Memref.whole cc0_scratch0
abbrev vM : Memref sig .tc .vmem S2x256x512 .bf16 := Memref.whole cc0_scratch1
abbrev pM : Memref sig .tc .vmem S512x512 .f32 := Memref.whole cc0_scratch2

/-- The runtime's barrier semaphore of collective id 0. -/
abbrev barS : Sem sig := (SemArray.scalar (sig.barrier 0 rfl) : Sems sig S_).sem

/-! ## The windows of a chunk -/

/-- Every chunk lies inside the send buffer, -/
theorem sInb : ∀ (k : Fin 8) (a : Fin 2), (![32 * k.val, 0] : Fin 2 → Nat) a + S32x512.size a ≤ S256x512.size a := by decide
/-- and every chunk of a half inside the receive buffer, -/
theorem vInb : ∀ (h : Fin 2) (k : Fin 8) (a : Fin 3), (![h.val, 32 * k.val, 0] : Fin 3 → Nat) a + S1x32x512.size a ≤ S2x256x512.size a := by decide
/-- and every semaphore inside its array. -/
theorem semInb : ∀ (k : Fin 8) (a : Fin 1), (![k.val] : Fin 1 → Nat) a + S1.size a ≤ S8.size a := by decide

/-- Rows `32 k … 32 k + 31` of the send buffer. -/
abbrev sRect (k : Fin 8) : Rect S256x512 := Rect.unit (s := S256x512) ![32 * k.val, 0] S32x512.size (sInb k)
/-- Rows `32 k … 32 k + 31` of half `h` of the receive buffer. -/
abbrev vRect (h : Fin 2) (k : Fin 8) : Rect S2x256x512 := Rect.unit (s := S2x256x512) ![h.val, 32 * k.val, 0] S1x32x512.size (vInb h k)

/-- A chunk of the send buffer is made of whole words, -/
theorem sWords : ∀ k : Fin 8, (sRect k).WholeWords (EltTy.packing .bf16) := by decide
/-- and so is one of the receive buffer. -/
theorem vWords : ∀ (h : Fin 2) (k : Fin 8), (vRect h k).WholeWords (EltTy.packing .bf16) := by decide

/-- Chunk `k` of the send buffer, as the copies name it. -/
abbrev sC (k : Fin 8) : Memref sig .tc .vmem S32x512 .bf16 := sM.slice (sRect k) (fun _ => rfl)
/-- Chunk `k` of half `h` of the receive buffer, as the copies name it. -/
abbrev vC (h : Fin 2) (k : Fin 8) : Memref sig .tc .vmem S32x512 .bf16 := (vM.slice (vRect h k) (fun _ => rfl)).squeeze S32x512 squeezes_S1x32x512_S32x512

/-- A copy of a chunk of the send buffer moves exactly its elements, -/
theorem sExact (k : Fin 8) : (sC k).view.WordExact := (Memref.isWhole_whole cc0_scratch0).wordExact_slice rfl _ (sWords k)
/-- and so does one of a chunk of the receive buffer. -/
theorem vExact (h : Fin 2) (k : Fin 8) : (vC h k).view.WordExact := ((Memref.isWhole_whole cc0_scratch1).wordExact_slice rfl _ (vWords h k)).reshape _ _

/-- Semaphore `k` of an array of eight. -/
abbrev semAt (a : DmaSems sig S8) (k : Fin 8) : DmaSem sig := ((a.slice (Rect.unit (s := S8) ![k.val] S1.size (semInb k))).squeeze S_ squeezes_S1_S_).sem

/-- The four arrays of DMA semaphores: hop along x, sending and receiving side; hop along y, sending and receiving side. -/
abbrev semArr : Fin 4 → DmaSems sig S8 := fun | 0 => cc0_scratch3 | 1 => cc0_scratch4 | 2 => cc0_scratch5 | 3 => cc0_scratch6
abbrev dsem (j : Fin 4) (k : Fin 8) : DmaSem sig := semAt (semArr j) k

abbrev full512 : Rect S512x512 := Rect.unit (s := S512x512) ![0, 0] S512x512.size inb_S512x512_S512x512_0_0
abbrev full256 : Rect S256x512 := Rect.unit (s := S256x512) ![0, 0] S256x512.size inb_S256x512_S256x512_0_0
abbrev fullG : Rect S1x512 := Rect.unit (s := S1x512) ![0, 0] S1x512.size inb_S1x512_S1x512_0_0
abbrev baseRect (d : Dev nD) : Rect S512x512 := Rect.unit (s := S512x512) (k0_off1 d) S256x512.size (k0_off1_inb d)

/-! ## The phases -/

/-- The neighbours along x and along y, as the kernel computes them from its device id. -/
abbrev xDev (d : Dev nD) : Dev nD := ⟨k0_dev3 d, k0_dev3_lt d⟩
abbrev yDev (d : Dev nD) : Dev nD := ⟨k0_dev11 d, k0_dev11_lt d⟩

/-- Kernel programs on a TensorCore. -/
abbrev KProg (F : FTy → Type) : Type 1 := Prog (TpuEff nD τ sig (Elt F) Λ₀ .tc) PUnit

/-- `f` at each chunk of a list, in order. -/
def each (f : Fin 8 → KProg F) : List (Fin 8) → KProg F
  | [] => pure ⟨⟩
  | k :: ks => f k >>= fun _ => each f ks

/-- The eight chunks. -/
abbrev chunks : List (Fin 8) := [0, 1, 2, 3, 4, 5, 6, 7]

/-- Start the copy of chunk `k` of the send buffer into half 0 of the x neighbour's receive buffer. -/
def sendX (d : Dev nD) (k : Fin 8) : KProg F :=
  Prog.lift (.enqueueDma (sC k) (.remote (Dev.tc (xDev d)) (vC 0 k) (.dma (dsem 0 k))) (.dma (dsem 1 k)) (sExact k) (vExact 0 k) ⟨⟨rfl, Or.inl rfl⟩, trivial⟩)

/-- Complete 32 rows, at offset `off`, from chunk `k` of half `h` of the receive buffer: load the rows of the sum, the
    chunk and the scale, and store the normalised rows. -/
def rows (off : Fin 2 → Nat) (inb : ∀ a, off a + S32x512.size a ≤ S512x512.size a) (h : Fin 2) (k : Fin 8) : KProg F := do
  let p : Vec F S32x512 .f32 ← Prog.lift (.load pM (Rect.unit (s := S512x512) off S32x512.size inb).toLoadRect (View.loadsAt_vmem h_S32x512))
  let v : Vec F S1x32x512 .bf16 ← Prog.lift (.load vM (vRect h k).toLoadRect (View.loadsAt_vmem h_S1x32x512))
  let g : Vec F S1x512 .f32 ← Prog.lift (.load gM fullG.toLoadRect (View.loadsAt_vmem h_S1x512))
  let _o : Vec F S32x512 .f32 ← Prog.lift (.load oM (Rect.unit (s := S512x512) off S32x512.size inb).toLoadRect (View.loadsAt_vmem h_S32x512))
  Prog.lift (.store oM (Rect.unit (s := S512x512) off S32x512.size inb) (k0_pay3 p v g) Finset.univ (View.stores_vmem_bits_univ h_S32x512 rfl) (.inl rfl))

/-- Chunk `k` of the first hop: wait for it, start forwarding it to the y neighbour, and write the rows it completes:
    `256 y + 32 k … + 31` on a device at coordinate `y`. -/
def stepX (d : Dev nD) (k : Fin 8) : KProg F := do
  Prog.lift (.waitDma2 (dsem 1 k) (sC k) (vC 0 k) (sExact k) (vExact 0 k))
  Prog.lift (.enqueueDma (vC 0 k) (.remote (Dev.tc (yDev d)) (vC 1 k) (.dma (dsem 2 k))) (.dma (dsem 3 k)) (vExact 0 k) (vExact 1 k) ⟨⟨rfl, Or.inl rfl⟩, trivial⟩)
  rows (k0_off2 d (BitVec.ofNat 32 (32 * k.val))) (k0_off2_inb d k) 0 k

/-- Chunk `k` of the second hop: wait for it and write the rows it completes: `256 (1 - y) + 32 k … + 31`. -/
def stepY (d : Dev nD) (k : Fin 8) : KProg F := do
  Prog.lift (.waitDma2 (dsem 3 k) (vC 0 k) (vC 1 k) (vExact 0 k) (vExact 1 k))
  rows (k0_off3 d (BitVec.ofNat 32 (32 * k.val))) (k0_off3_inb d k) 1 k

/-- Wait until chunk `k` has left this device, on both hops. -/
def drain (k : Fin 8) : KProg F := do
  Prog.lift (.waitDma2 (dsem 0 k) (vC 0 k) (sC k) (vExact 0 k) (sExact k))
  Prog.lift (.waitDma2 (dsem 2 k) (vC 1 k) (vC 0 k) (vExact 1 k) (vExact 0 k))

/-- The body on device `d`. -/
def prog (d : Dev nD) : KProg F := do
  semSignalWord (xDev d) barS 1#32
  semSignalWord (yDev d) barS 1#32
  let v : Vec F S256x512 .f32 ← Prog.lift (.load xM (baseRect d).toLoadRect (View.loadsAt_vmem h_S256x512))
  let _s : Vec F S256x512 .bf16 ← Prog.lift (.load sM full256.toLoadRect (View.loadsAt_vmem h_S256x512))
  Prog.lift (.store sM full256 (k0_pay1 v) Finset.univ (View.stores_vmem h_S256x512 ((Memref.isWhole_whole cc0_scratch0).storeExact_slice rfl _ packedbf16_S256x512_S256x512_0_0) (fun _ => rfl)) (.inl rfl))
  semWaitWord barS 2#32
  each (sendX d) chunks
  let x : Vec F S512x512 .f32 ← Prog.lift (.load xM full512.toLoadRect (View.loadsAt_vmem h_S512x512))
  let r : Vec F S512x512 .f32 ← Prog.lift (.load resM full512.toLoadRect (View.loadsAt_vmem h_S512x512))
  let _p : Vec F S512x512 .f32 ← Prog.lift (.load pM full512.toLoadRect (View.loadsAt_vmem h_S512x512))
  Prog.lift (.store pM full512 (k0_pay2 x r) Finset.univ (View.stores_vmem_bits_univ h_S512x512 rfl) (.inl rfl))
  each (stepX d) chunks
  each (stepY d) chunks
  each (fun k => drain k) chunks

/-- The printed body, on the staged operands and the scratch buffers, is `prog` at the device id it reads. -/
theorem body_eq :
    cc0_body (F := F) xM (Memref.isWhole_whole _) resM (Memref.isWhole_whole _) gM (Memref.isWhole_whole _) oM (Memref.isWhole_whole _)
      sM (Memref.isWhole_whole _) vM (Memref.isWhole_whole _) pM (Memref.isWhole_whole _) cc0_scratch3 cc0_scratch4 cc0_scratch5 cc0_scratch6
      = (.op .deviceId fun d => prog d) := by
  chain_rfl

end Cert.AllReduceNorm

end

end
-- ==== Proof.Protocol.lean ====
/-
  The protocol of the two hops: the neighbours, what every chunk holds, the semaphore cells and what is paid on them.

  Each device signals the barrier cell of its x neighbour and of its y neighbour; with the signal it lends the half of
  its receive buffer that neighbour copies into. Chunk `k` then has four DMA cells: `(0,k)` and `(1,k)` the sending and
  the receiving side of the hop along x, `(2,k)` and `(3,k)` those of the hop along y. Every cell is used for one round.
-/
module

public import proofs.«01_k».proof.Proof.Program
public import proofs.«01_k».proof.Proof.Gen.KernelIdeal.Frame
public import Idealize.ShloMosaic.Lib.Rounds
public import Idealize.ShloMosaic.Lib.MemrefSat
public import Idealize.ShloMosaic.Lib.Ring
public import Idealize.ShloMosaic.Lib.Pipeline.Value
public import Idealize.ShloMosaic.Lib.Pipeline.Launch
public import Idealize.ShloMosaic.Lib.Pipeline.Kit
public import Idealize.ShloMosaic.Lib.Tactic

@[expose] public section

noncomputable section

namespace Cert.AllReduceNorm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The neighbours -/

/-- The x neighbour of the x neighbour is the device, -/
theorem xDev_xDev : ∀ c : Dev nD, xDev (xDev c) = c := by decide +kernel
/-- the y neighbour of the y neighbour too, -/
theorem yDev_yDev : ∀ c : Dev nD, yDev (yDev c) = c := by decide +kernel
/-- and the two steps commute. -/
theorem xDev_yDev : ∀ c : Dev nD, xDev (yDev c) = yDev (xDev c) := by decide +kernel

/-- The device's coordinate along y. -/
def yOf (c : Dev nD) : Nat := (c.val / 4) % 2
/-- A step along x keeps the y coordinate, -/
theorem yOf_xDev : ∀ c : Dev nD, yOf (xDev c) = yOf c := by decide +kernel
/-- one along y changes it, -/
theorem yOf_yDev : ∀ c : Dev nD, yOf (yDev c) = 1 - yOf c := by decide +kernel
/-- and it is zero or one. -/
theorem yOf_lt (c : Dev nD) : yOf c < 2 := Nat.mod_lt _ (by decide)

/-- The exchange of neighbours along x, as a permutation of the devices, -/
def xSwap : Dev nD ≃ Dev nD := ⟨xDev, xDev, xDev_xDev, xDev_xDev⟩
/-- and that along y. -/
def ySwap : Dev nD ≃ Dev nD := ⟨yDev, yDev, yDev_yDev, yDev_yDev⟩

/-! ## The resource algebra -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## What the operands and the chunks hold -/

/-- The staged operands of device `c`. -/
def xIn (c : Dev nD) : Vec F S512x512 .f32 := iblk m c 0 t0_0
/-- The residual that device `c` finds. -/
def rIn (c : Dev nD) : Vec F S512x512 .f32 := iblk m c 1 t0_0
/-- The scale that device `c` finds. -/
def gIn (c : Dev nD) : Vec F S1x512 .f32 := iblk m c 2 t0_0

/-- What device `d` writes to its send buffer: its own 256 rows of `x`, rounded. -/
def sendV (d : Dev nD) : Vec F S256x512 .bf16 := k0_pay1 ((xM : Memref sig .tc .vmem S512x512 .f32).view.readAt (Elt F) (baseRect d).toLoadRect (xIn m d))
/-- Chunk `k` of it. -/
def chunkV (d : Dev nD) (k : Fin 8) : Vec F S32x512 .bf16 := (sC k).view.read (Elt F) (sendV m d)
/-- The sum a device starts from: its own `x` and the residual. -/
def preV (c : Dev nD) : Vec F S512x512 .f32 := k0_pay2 (xIn m c) (rIn m c)

/-! ## The cells -/

/-- A cell of a device: its barrier cell, or DMA cell `(j, k)`. -/
abbrev Cell : Type := Option (Fin 4 × Fin 8)

abbrev csem : Cell → SemLoc sig
  | none => .reg barS
  | some (j, k) => .dma (dsem j k)

abbrev cell (c : Dev nD) (i : Cell) : GSem nD τ sig := ((c : Thread nD τ), csem i)

/-- Which cell a semaphore is, if it is one of the protocol's. -/
def kindOf : SemLoc sig → Option Cell
  | .reg s => if s = barS then some none else none
  | .dma q => if 4 ≤ q.val then some (some (⟨(q.val - 4) / 8 % 4, Nat.mod_lt _ (by decide)⟩, ⟨(q.val - 4) % 8, Nat.mod_lt _ (by decide)⟩)) else none

/-- A semaphore of the protocol tells which cell it is, -/
theorem kindOf_csem : ∀ i : Cell, kindOf (csem i) = some i := by decide +kernel
/-- so different cells have different semaphores. -/
theorem csem_inj (i i' : Cell) (h : csem i = csem i') : i = i' :=
  Option.some.inj ((kindOf_csem i).symm.trans ((congrArg kindOf h).trans (kindOf_csem i')))

/-- The units one chunk's copy raises its two semaphores by. -/
abbrev N : ℕ := (sC 0).view.dmaCredit
/-- A chunk is some credit. -/
theorem N_pos : 0 < N := View.dmaCredit_pos _ (by decide)
/-- Every chunk of the send buffer is the same credit, -/
theorem credit_s (k : Fin 8) : (sC k).view.dmaCredit = N := rfl
/-- and so is every chunk of the receive buffer. -/
theorem credit_v (h : Fin 2) (k : Fin 8) : (vC h k).view.dmaCredit = N := rfl

/-! ## What is paid -/

/-- Half `h` of device `d`'s receive buffer, chunk by chunk, at contents not chosen. -/
def free (d : Dev nD) (h : Fin 2) : sProp 𝕄 :=
  bigSep Finset.univ fun k : Fin 8 => iprop(∃ f : Buf (Elt F) ((vC h k).view.loc (d : Thread nD τ)), (vC h k).view.loc (d : Thread nD τ) ↦[(vC h k).view.set]{fullShare} f)

/-- The cells `(j, ·)` of device `d` are ready for their round. -/
def ready (d : Dev nD) (j : Fin 4) : sProp 𝕄 := bigSep Finset.univ fun k : Fin 8 => reached (ER (F := F)) (cell d (some (j, k))) 0

/-- What a device lends with its barrier signal: half `h` of its receive buffer, and that the cells `(j, ·)` are ready. -/
def lend (d : Dev nD) (h : Fin 2) (j : Fin 4) : sProp 𝕄 :=
  iprop(free d h ∗ ready d j)

/-- What a DMA cell `(j, k)` of device `c` pays: the sent chunk back, or the chunk received, at named contents. -/
def dmaPay (c : Dev nD) (k : Fin 8) : Fin 4 → sProp 𝕄
  | 0 => owns (c : Thread nD τ) (sC k) fullShare (chunkV m c k)
  | 1 => owns (c : Thread nD τ) (vC 0 k) fullShare (chunkV m (xDev c) k)
  | 2 => owns (c : Thread nD τ) (vC 0 k) fullShare.right (chunkV m (xDev c) k)
  | 3 => owns (c : Thread nD τ) (vC 1 k) fullShare (chunkV m (xDev (yDev c)) k)

/-- What each duty on each kind of cell hands over. -/
def pay (c : Dev nD) : Option Cell → Bool → sProp 𝕄
  | some none, false => lend (xDev c) 0 1
  | some none, true => lend (yDev c) 1 3
  | some (some (j, k)), _ => dmaPay m c k j
  | none, _ => iprop(emp)

/-- The duties of each kind of cell. -/
def dutiesOf : Option Cell → Finset Bool
  | some none => Finset.univ
  | some (some _) => {false}
  | none => ∅

/-- What each duty pays. -/
def amt : Option Cell → ℕ
  | some none => 1
  | _ => N

/-- One round: two signals on every barrier cell, one copy on every DMA cell. -/
def sched : Rounds.Schedule (GSem nD τ sig) Bool 𝕄 where
  duties g r := if r = 0 ∧ g.1.2 = .tc then dutiesOf (kindOf g.2) else ∅
  unitless _ := False
  amount g _ _ := amt (kindOf g.2)
  payload g _ d := pay m g.1.1 (kindOf g.2) d
  amount_pos g _ _ _ := by
    unfold amt; split
    · exact Nat.one_pos
    · exact N_pos

/-- What a copy hands over may be kept in an invariant, -/
instance dmaPay_storable (c : Dev nD) (k : Fin 8) (j : Fin 4) : BI.Storable (upEmb : UEmb _ 𝕄) (dmaPay m c k j) := by
  unfold dmaPay; split <;> infer_instance
/-- and so may the lent half of a buffer, -/
instance lend_storable (d : Dev nD) (h : Fin 2) (j : Fin 4) : BI.Storable (upEmb : UEmb _ 𝕄) (lend (F := F) d h j) := by
  unfold lend free ready; infer_instance
/-- and so what any duty hands over. -/
instance sched_payload_storable (g : GSem nD τ sig) (r : ℕ) (d : Bool) :
    BI.Storable (upEmb : UEmb _ 𝕄) ((sched (F := F) m).payload g r d) := by
  show BI.Storable upEmb (pay m g.1.1 (kindOf g.2) d)
  unfold pay; split <;> infer_instance

section Sched

variable (c : Dev nD)

/-- The duties of a cell in its first round, -/
theorem duties_cell (i : Cell) : (sched (F := F) m).duties (cell c i) 0 = dutiesOf (some i) := by
  dsimp only [sched]; rw [kindOf_csem]; exact if_pos ⟨rfl, rfl⟩
/-- none after it, -/
theorem duties_later (g : GSem nD τ sig) : ∀ r, 1 ≤ r → (sched (F := F) m).duties g r = ∅ :=
  fun r hr => by dsimp only [sched]; exact if_neg fun h => by omega
/-- what each pays, -/
theorem amount_cell (i : Cell) (d : Bool) : (sched (F := F) m).amount (cell c i) 0 d = amt (some i) := by
  dsimp only [sched]; rw [kindOf_csem]
/-- and what each hands over. -/
theorem payload_cell (i : Cell) (d : Bool) : (sched (F := F) m).payload (cell c i) 0 d = pay m c (some i) d := by
  dsimp only [sched]; rw [kindOf_csem]

/-- A barrier cell takes two signals, -/
theorem expect_bar : (sched (F := F) m).expect (cell c none) 0 = 2 := by
  unfold Schedule.expect Schedule.amountOf; rw [duties_cell, Finset.sum_congr rfl (fun d _ => amount_cell m c none d)]; rfl
/-- a DMA cell one chunk. -/
theorem expect_dma (j : Fin 4) (k : Fin 8) : (sched (F := F) m).expect (cell c (some (j, k))) 0 = N := by
  unfold Schedule.expect Schedule.amountOf; rw [duties_cell, Finset.sum_congr rfl (fun d _ => amount_cell m c (some (j, k)) d)]
  exact Finset.sum_singleton ..

/-- What waiting on the barrier cell hands over: both lent halves. -/
theorem rest_bar : bigSep ((sched (F := F) m).duties (cell c none) 0 \ ∅) (fun d => (sched (F := F) m).payload (cell c none) 0 d)
    = iprop(lend (F := F) (xDev c) 0 1 ∗ lend (F := F) (yDev c) 1 3) := by
  rw [Finset.sdiff_empty, duties_cell, bigSep_congr (fun d _ => payload_cell m c none d)]
  show bigSep Finset.univ _ = _
  rw [bigSep_univ_eq_bigSepL [false, true] (by decide) (by decide), bigSepL_cons, bigSepL_cons, bigSepL_nil]
  exact congrArg _ (equiv_iff.mp BI.sep_emp)
/-- What waiting on a DMA cell hands over. -/
theorem rest_dma (j : Fin 4) (k : Fin 8) : bigSep ((sched (F := F) m).duties (cell c (some (j, k))) 0 \ ∅) (fun d => (sched (F := F) m).payload (cell c (some (j, k))) 0 d)
    = dmaPay m c k j := by
  rw [Finset.sdiff_empty, duties_cell, bigSep_congr (fun d _ => payload_cell m c (some (j, k)) d)]
  exact bigSep_singleton ..

end Sched

/-! ## What a device owes -/

/-- The hop along y still owed for the chunks of a list. -/
def owedY (c : Dev nD) : List (Fin 8) → CellTallies nD τ sig Unit
  | [] => 0
  | k :: ks => owedY c ks + tallyAt (cell (yDev c) (some (3, k))) () N
/-- The hop along x still owed for the chunks of a list, and all of the hop along y. -/
def owedX (c : Dev nD) : List (Fin 8) → CellTallies nD τ sig Unit
  | [] => owedY c chunks
  | k :: ks => owedX c ks + tallyAt (cell (xDev c) (some (1, k))) () N
/-- What device `c` owes at launch: both hops and its two barrier signals. -/
def owed₀ (c : Dev nD) : CellTallies nD τ sig Unit :=
  owedX c chunks + tallyAt (cell (yDev c) none) () 1 + tallyAt (cell (xDev c) none) () 1

/-! ## The levels -/

/-- The levels are assigned to the cells of the TensorCores. -/
def L (g : GSem nD τ sig) : Finset Unit := if g.1.2 = .tc then {()} else ∅
/-- The barrier below the first hop below the second; everything else at 0. -/
def lvOf : Option Cell → ℕ
  | some none => 1
  | some (some (1, _)) => 2
  | some (some (3, _)) => 3
  | _ => 0
/-- The level of a cell. -/
def lv (g : GSem nD τ sig) (_ : Unit) : ℕ := lvOf (kindOf g.2)

/-- A cell of a TensorCore has a level, -/
theorem L_tc (c : Dev nD) (sm : SemLoc sig) : L ((c : Thread nD τ), sm) = {()} := if_pos rfl
/-- and no other cell has one. -/
theorem L_of_ne (g : GSem nD τ sig) (h : g.1.2 ≠ .tc) : L g = ∅ := if_neg h
/-- The level of a cell of the protocol. -/
theorem lv_cell (c : Dev nD) (i : Cell) : lv (cell c i) () = lvOf (some i) := by unfold lv; rw [kindOf_csem]

/-- Everything owed lies on TensorCore cells above level `b`. -/
def Above (b : ℕ) (O : CellTallies nD τ sig Unit) : Prop := ∀ g u, 0 < O g u → g.1.2 = .tc ∧ b < lv g u

/-- Nothing owed is above every level, -/
theorem above_zero (b : ℕ) : Above b 0 := fun _ _ h => absurd h (Nat.lt_irrefl 0)
/-- a sum is above what its parts are above, -/
theorem above_add {b : ℕ} {O O' : CellTallies nD τ sig Unit} (h : Above b O) (h' : Above b O') : Above b (O + O') := fun g u hg => by
  rcases Nat.eq_zero_or_pos (O g u) with h0 | h0
  · refine h' g u ?_
    have : (O + O') g u = O g u + O' g u := rfl
    omega
  · exact h g u h0
/-- and one debt is above the levels below its cell. -/
theorem above_tally {b : ℕ} (c : Dev nD) (i : Cell) (n : ℕ) (hb : b < lvOf (some i)) : Above b (tallyAt (cell c i) () n) := fun g u hg => by
  rw [tallyAt_apply] at hg
  by_cases h : g = cell c i ∧ u = ()
  · rw [h.1]; exact ⟨rfl, by rw [lv_cell]; exact hb⟩
  · rw [if_neg h] at hg; exact absurd hg (Nat.lt_irrefl 0)

/-- The debts of the hop along y are above level 2. -/
theorem above_owedY (c : Dev nD) : ∀ ks, Above 2 (owedY c ks)
  | [] => above_zero 2
  | _ :: ks => above_add (above_owedY c ks) (above_tally _ _ _ (Nat.lt_succ_self 2))
/-- What is above a level is above the lower ones. -/
theorem Above.mono {b b' : ℕ} {O : CellTallies nD τ sig Unit} (h : Above b' O) (hb : b ≤ b') : Above b O :=
  fun g u hg => ⟨(h g u hg).1, Nat.lt_of_le_of_lt hb (h g u hg).2⟩
/-- The debts of the hop along x are above level 1. -/
theorem above_owedX (c : Dev nD) : ∀ ks, Above 1 (owedX c ks)
  | [] => (above_owedY c chunks).mono (by decide)
  | _ :: ks => above_add (above_owedX c ks) (above_tally _ _ _ (Nat.lt_succ_self 1))
/-- All debts at the start are above level 0. -/
theorem above_owed₀ (c : Dev nD) : Above 0 (owed₀ c) :=
  above_add (above_add ((above_owedX c chunks).mono (by decide)) (above_tally _ _ _ Nat.one_pos)) (above_tally _ _ _ Nat.one_pos)

/-- A device may wait on its cell `i` while everything it owes lies above that cell. -/
theorem mayWait (c : Dev nD) (i : Cell) {O : CellTallies nD τ sig Unit} (h : Above (lvOf (some i)) O) :
    (levAts L lv : sProp 𝕄) ⊢ MayWait (c : Thread nD τ) (csem i) () O :=
  MayOwe.of_cut (L := L) (lev := lv) (lvOf (some i))
    (fun p hp => by rw [Finset.mem_singleton.mp hp, L_tc]; exact Finset.mem_singleton_self _)
    (fun g u hg => by unfold L; rw [if_pos (h g u hg).1]; exact Finset.mem_singleton_self _)
    (fun p hp => by rw [Finset.mem_singleton.mp hp]; exact (lv_cell c i).le)
    (fun g u hg => (h g u hg).2)

/-! ## The buffers as chunks -/

/-- Different chunks of the send buffer share no index, -/
theorem s_disjoint (k k' : Fin 8) (h : k ≠ k') : Disjoint (sRect k).set (sRect k').set := by
  refine Finset.disjoint_left.mpr fun i hi hi' => h ?_
  have h₁ := Rect.mem_set_unit.mp hi 0
  have h₂ := Rect.mem_set_unit.mp hi' 0
  simp only [Matrix.cons_val_zero] at h₁ h₂
  have e : S32x512.size 0 = 32 := rfl
  exact Fin.ext (by omega)
/-- and together they are all of it. -/
theorem s_cover : Finset.univ.biUnion (fun k => (sRect k).set) = Finset.univ := by
  refine Finset.eq_univ_iff_forall.mpr fun i => ?_
  have h0 : (i 0).val < 256 := (i 0).isLt
  have h1 : (i 1).val < 512 := (i 1).isLt
  refine Finset.mem_biUnion.mpr ⟨⟨(i 0).val / 32, by omega⟩, Finset.mem_univ _, Rect.mem_set_unit.mpr fun a => ?_⟩
  have e0 : S32x512.size 0 = 32 := rfl
  have e1 : S32x512.size 1 = 512 := rfl
  match a with
  | 0 => simp only [Matrix.cons_val_zero]; omega
  | 1 => show 0 ≤ (i 1).val ∧ (i 1).val < 0 + 512; omega

abbrev vR (t : Fin 2 × Fin 8) : Rect S2x256x512 := vRect t.1 t.2

/-- Different chunks of the receive buffer share no index, -/
theorem v_disjoint (t t' : Fin 2 × Fin 8) (h : t ≠ t') : Disjoint (vR t).set (vR t').set := by
  refine Finset.disjoint_left.mpr fun i hi hi' => h ?_
  have h₁ := Rect.mem_set_unit.mp hi
  have h₂ := Rect.mem_set_unit.mp hi'
  have e0 : S1x32x512.size 0 = 1 := rfl
  have e1 : S1x32x512.size 1 = 32 := rfl
  have a₁ := h₁ 0; have a₂ := h₂ 0; have b₁ := h₁ 1; have b₂ := h₂ 1
  simp only [Matrix.cons_val_zero, Matrix.cons_val_one] at a₁ a₂ b₁ b₂
  exact Prod.ext (Fin.ext (by omega)) (Fin.ext (by omega))
/-- and together they are all of it. -/
theorem v_cover : Finset.univ.biUnion (fun t => (vR t).set) = Finset.univ := by
  refine Finset.eq_univ_iff_forall.mpr fun i => ?_
  have h0 : (i 0).val < 2 := (i 0).isLt
  have h1 : (i 1).val < 256 := (i 1).isLt
  have h2 : (i 2).val < 512 := (i 2).isLt
  refine Finset.mem_biUnion.mpr ⟨(⟨(i 0).val, h0⟩, ⟨(i 1).val / 32, by omega⟩), Finset.mem_univ _, Rect.mem_set_unit.mpr fun a => ?_⟩
  have e0 : S1x32x512.size 0 = 1 := rfl
  have e1 : S1x32x512.size 1 = 32 := rfl
  have e2 : S1x32x512.size 2 = 512 := rfl
  match a with
  | 0 => simp only [Matrix.cons_val_zero]; omega
  | 1 => simp only [Matrix.cons_val_one]; show 32 * ((i 1).val / 32) ≤ (i 1).val ∧ (i 1).val < 32 * ((i 1).val / 32) + 32; omega
  | 2 => show 0 ≤ (i 2).val ∧ (i 2).val < 0 + 512; omega

/-- The two buffers as their chunks' element sets. -/
theorem sC_set (k : Fin 8) : (sC k).view.set = (sRect k).set := by
  show ((View.whole cc0_scratch0).slice (sRect k)).set = _
  rw [View.set_slice]; exact Finset.map_refl
/-- The indices of the window of a chunk. -/
theorem vC_set (t : Fin 2 × Fin 8) : (vC t.1 t.2).view.set = (vR t).set := by
  rw [show (vC t.1 t.2).view.set = ((View.whole cc0_scratch1).slice (vR t)).set from Memref.set_view_squeeze _ _]
  rw [View.set_slice]; exact Finset.map_refl

end Cert.AllReduceNorm

end

end
-- ==== Proof.Contents.lean ====
/-
  What the kernel writes: the result buffer as sixteen blocks of 32 rows, each computed from the device's own rows and one
  received chunk.
-/
module

public import proofs.«01_k».proof.Proof.Protocol

@[expose] public section

noncomputable section

namespace Cert.AllReduceNorm

open Cert.KernelIdeal Cert.KernelIdeal.Gen
open Idealize.ShloMosaic Idealize.ShloMosaic.TcCoe

variable {F : FTy → Type} [FloatOps F]
variable (m : (ℓ : Loc nD τ sig) → Buf (Elt F) ℓ)

/-! ## Blocks of 32 rows -/

/-- Every block lies inside the buffer. -/
theorem blkInb : ∀ (q : Fin 16) (a : Fin 2), (![32 * q.val, 0] : Fin 2 → Nat) a + S32x512.size a ≤ S512x512.size a := by decide
/-- Rows `32 q … 32 q + 31`. -/
abbrev blkRect (q : Fin 16) : Rect S512x512 := Rect.unit (s := S512x512) ![32 * q.val, 0] S32x512.size (blkInb q)

/-- Block `q` of a 512-row array. -/
def blkOf {α : Type} (X : S512x512.Idx → α) (q : Fin 16) : S32x512.Idx → α := fun j => X ((blkRect q).emb j)

/-- The block of chunk `k` a device reduces along x, and the one its y neighbour reduces. -/
def ownQ (c : Dev nD) (k : Fin 8) : Fin 16 := ⟨8 * yOf c + k.val, by have := yOf_lt c; omega⟩
/-- The block of chunk `k` that the y neighbour reduces. -/
def othQ (c : Dev nD) (k : Fin 8) : Fin 16 := ⟨8 * (1 - yOf c) + k.val, by omega⟩

/-- Neighbours along x reduce the same blocks, -/
theorem ownQ_xDev (c : Dev nD) (k : Fin 8) : ownQ (xDev c) k = ownQ c k := Fin.ext (by simp only [ownQ, yOf_xDev])
/-- and neighbours along y each the blocks of the other. -/
theorem ownQ_yDev (c : Dev nD) (k : Fin 8) : ownQ (yDev c) k = othQ c k := Fin.ext (by simp only [ownQ, othQ, yOf_yDev])
/-- Every block is one of the two kinds. -/
theorem own_or_oth (c : Dev nD) (q : Fin 16) : (∃ k, q = ownQ c k) ∨ ∃ k, q = othQ c k := by
  have hy := yOf_lt c
  have hq := q.isLt
  by_cases h : q.val / 8 = yOf c
  · exact .inl ⟨⟨q.val % 8, Nat.mod_lt _ (by decide)⟩, Fin.ext (by simp only [ownQ]; omega)⟩
  · exact .inr ⟨⟨q.val % 8, Nat.mod_lt _ (by decide)⟩, Fin.ext (by simp only [othQ]; omega)⟩

/-- The printed offset of a block of the own half. -/
theorem own_off (c : Dev nD) (k : Fin 8) : k0_off2 c (BitVec.ofNat 32 (32 * k.val)) = ![32 * (ownQ c k).val, 0] := by
  rw [k0_off2_eq]; simp only [ownQ, yOf]; congr 1; omega
/-- The printed offset of a block of the other half. -/
theorem oth_off (c : Dev nD) (k : Fin 8) : k0_off3 c (BitVec.ofNat 32 (32 * k.val)) = ![32 * (othQ c k).val, 0] := by
  rw [k0_off3_eq]; simp only [othQ, yOf]; congr 1; omega

/-- Every element lies in the block its row says. -/
def rowQ (i : S512x512.Idx) : Fin 16 := ⟨(i 0).val / 32, by have h : (i 0).val < 512 := (i 0).isLt; omega⟩
/-- The index of an element inside its block. -/
def rowJ (i : S512x512.Idx) : S32x512.Idx := fun a => match a with
  | 0 => ⟨(i 0).val % 32, Nat.mod_lt _ (by decide)⟩
  | 1 => ⟨(i 1).val, (i 1).isLt⟩

/-- Block and index inside it name the element. -/
theorem emb_row (i : S512x512.Idx) : (blkRect (rowQ i)).emb (rowJ i) = i := by
  funext a; refine Fin.ext ?_
  rw [Rect.emb_apply]
  match a with
  | 0 => show 32 * ((i 0).val / 32) + 1 * ((i 0).val % 32) = (i 0).val; omega
  | 1 => show 0 + 1 * (i 1).val = (i 1).val; omega
/-- The block of an element of block `q` is `q`, -/
theorem rowQ_emb (q : Fin 16) (j : S32x512.Idx) : rowQ ((blkRect q).emb j) = q := by
  refine Fin.ext ?_
  have h : (j 0).val < 32 := (j 0).isLt
  show ((blkRect q).emb j 0).val / 32 = q.val
  rw [Rect.emb_apply]; show (32 * q.val + 1 * (j 0).val) / 32 = q.val; omega
/-- and its index inside the block is the one it came from. -/
theorem rowJ_emb (q : Fin 16) (j : S32x512.Idx) : rowJ ((blkRect q).emb j) = j :=
  (blkRect q).emb.injective (by have := emb_row ((blkRect q).emb j); rw [rowQ_emb] at this; exact this)

/-- Two arrays equal on every block are equal. -/
theorem blk_ext {α : Type} {X Y : S512x512.Idx → α} (h : ∀ q, blkOf X q = blkOf Y q) : X = Y := funext fun i => by
  have := congrFun (h (rowQ i)) (rowJ i)
  unfold blkOf at this
  rwa [emb_row] at this

/-! ## The result -/

/-- A chunk may be read with a leading axis of length one. -/
theorem shapeCasts_S32x512_S1x32x512 : S32x512.ShapeCasts S1x32x512 := by decide

/-- 32 rows normalised: the device's rows `p`, the received chunk `w` added, each row divided by its root mean square and scaled by `g`. -/
def normRows (p : Vec F S32x512 .f32) (w : Vec F S32x512 .bf16) (g : Vec F S1x512 .f32) : Vec F S32x512 .f32 :=
  k0_pay3 p (shapeCast S1x32x512 w shapeCasts_S32x512_S1x32x512) g

/-- The printed row normalization of a chunk with a leading axis. -/
theorem normRows_eq (p : Vec F S32x512 .f32) (v : Vec F S1x32x512 .bf16) (g : Vec F S1x512 .f32) :
    k0_pay3 p v g = normRows p (shapeCast S32x512 v shapeCasts_S1x32x512_S32x512) g := by
  unfold normRows; rw [shapeCast_shapeCast]

/-- Whose chunk completes block `q` on device `c`: its x neighbour's, or that of the y neighbour's x neighbour. -/
def src (c : Dev nD) (q : Fin 16) : Dev nD := if q.val / 8 = yOf c then xDev c else xDev (yDev c)

/-- A block of the own half is completed by the x neighbour, -/
theorem src_own (c : Dev nD) (k : Fin 8) : src c (ownQ c k) = xDev c := if_pos (by simp only [ownQ]; omega)
/-- one of the other half by the x neighbour of the y neighbour. -/
theorem src_oth (c : Dev nD) (k : Fin 8) : src c (othQ c k) = xDev (yDev c) :=
  if_neg (by simp only [othQ]; have := yOf_lt c; omega)

/-- What device `c` writes to block `q`, and the whole result. -/
def valAt (c : Dev nD) (q : Fin 16) : Vec F S32x512 .f32 :=
  normRows (blkOf (preV m c) q) (truncf .bf16 (blkOf (xIn m (src c q)) q) bitsLt_bf16_f32) (gIn m c)
/-- The whole result of device `c`. -/
def outAt (c : Dev nD) : Vec F S512x512 .f32 := fun i => valAt m c (rowQ i) (rowJ i)

/-- Block `q` of the result. -/
theorem blkOf_outAt (c : Dev nD) (q : Fin 16) : blkOf (outAt m c) q = valAt m c q := by
  funext j; unfold blkOf outAt; rw [rowQ_emb, rowJ_emb]

/-- Chunk `k` of the send buffer is the rounded rows of its block. -/
theorem chunk_eq (d : Dev nD) (k : Fin 8) : chunkV m d k = truncf .bf16 (blkOf (xIn m d) (ownQ d k)) bitsLt_bf16_f32 := by
  have hidx (j : S32x512.Idx) : (baseRect d).idx ((sRect k).emb j) = (blkRect (ownQ d k)).emb j := by
    funext a; refine Fin.ext ?_
    have hb : k0_off1 d = ![256 * yOf d, 0] := k0_off1_eq d
    match a with
    | 0 =>
      show k0_off1 d 0 + 1 * (32 * k.val + 1 * (j 0).val) = 32 * (8 * yOf d + k.val) + 1 * (j 0).val
      rw [hb]; show 256 * yOf d + _ = _; omega
    | 1 =>
      show k0_off1 d 1 + 1 * (0 + 1 * (j 1).val) = 0 + 1 * (j 1).val
      rw [hb]; show 0 + _ = _; omega
  unfold chunkV sendV k0_pay1
  dsimp only
  rw [shapeCast_self, shapeCast_self]
  funext j
  show FloatOps.truncf .bf16 bitsLt_bf16_f32 (xIn m d ((baseRect d).idx ((sRect k).emb j))) = _
  rw [hidx]; rfl

/-- What the first half computes of a chunk is the value of its block, -/
theorem val_own (c : Dev nD) (k : Fin 8) : normRows (blkOf (preV m c) (ownQ c k)) (chunkV m (xDev c) k) (gIn m c) = valAt m c (ownQ c k) := by
  unfold valAt; rw [src_own, chunk_eq, ownQ_xDev]
/-- and so is what the second half computes. -/
theorem val_oth (c : Dev nD) (k : Fin 8) : normRows (blkOf (preV m c) (othQ c k)) (chunkV m (xDev (yDev c)) k) (gIn m c) = valAt m c (othQ c k) := by
  unfold valAt; rw [src_oth, chunk_eq, ownQ_xDev, ownQ_yDev]

/-! ## Writing a block -/

/-- The blocks written so far hold their final rows. -/
def Done (c : Dev nD) (S : Fin 16 → Prop) (f : Vec F S512x512 .f32) : Prop := ∀ q, S q → blkOf f q = valAt m c q

/-- A buffer whose blocks all have their values is the result. -/
theorem done_all {c : Dev nD} {S : Fin 16 → Prop} {f : Vec F S512x512 .f32} (h : Done m c S f) (hS : ∀ q, S q) : f = outAt m c :=
  blk_ext fun q => (h q (hS q)).trans (blkOf_outAt m c q).symm

/-- `f` with the rows of block `q` replaced. -/
def putBlk (f : Vec F S512x512 .f32) (q : Fin 16) (w : Vec F S32x512 .f32) : Vec F S512x512 .f32 :=
  ((oM : Memref sig .tc .vmem S512x512 .f32).access (blkRect q)).write (Elt F) f w Finset.univ

/-- Loading block `q` of a buffer reads it. -/
theorem blkOf_read (f : Vec F S512x512 .f32) (q : Fin 16) :
    blkOf f q = ((View.whole cc0_stg3_0).slice (blkRect q)).read (Elt F) f := rfl
/-- Storing block `q` puts it. -/
theorem putBlk_eq (f : Vec F S512x512 .f32) (q : Fin 16) (w : Vec F S32x512 .f32) :
    putBlk f q w = ((View.whole cc0_stg3_0).slice (blkRect q)).write (Elt F) f w Finset.univ := rfl

/-- A block that was put is there, -/
theorem blk_put_self (f : Vec F S512x512 .f32) (q : Fin 16) (w : Vec F S32x512 .f32) : blkOf (putBlk f q w) q = w := by
  rw [blkOf_read, putBlk_eq, View.read_write_univ]
/-- and the others are as they were. -/
theorem blk_put_ne (f : Vec F S512x512 .f32) {q q' : Fin 16} (h : q' ≠ q) (w : Vec F S32x512 .f32) : blkOf (putBlk f q w) q' = blkOf f q' := by
  rw [putBlk_eq]
  funext j
  unfold blkOf
  have hm : (blkRect q').emb j ∉ (Finset.univ : Finset (blkRect q).shape.Idx).map (blkRect q).emb := fun hm => by
    obtain ⟨j', -, hj'⟩ := Finset.mem_map.mp hm
    have := congrArg rowQ hj'
    rw [rowQ_emb, rowQ_emb] at this
    exact h this.symm
  have := View.read_slice_write_of_not_mem (v := View.whole cc0_stg3_0) (Val := Elt F) (blkRect q) f w Finset.univ hm
  rwa [View.read_whole, View.read_whole] at this

/-- Putting the value of one more block. -/
theorem done_put {c : Dev nD} {S S' : Fin 16 → Prop} {f : Vec F S512x512 .f32} {q : Fin 16} (h : Done m c S f)
    (hS : ∀ q', S' q' → q' = q ∨ S q') : Done m c S' (putBlk f q (valAt m c q)) := fun q' hq' => by
  by_cases e : q' = q
  · rw [e, blk_put_self]
  · rw [blk_put_ne _ e]; exact h q' ((hS q' hq').resolve_left e)

end Cert.AllReduceNorm

end

end
-- ==== Proof.Chunks.lean ====
/-
  The rules of one chunk, for every chunk number at once, and the rule of a loop over chunks.
-/
module

public import proofs.«01_k».proof.Proof.Contents
public import Idealize.ShloMosaic.Lib.Pipeline.BigSepL

@[expose] public section

noncomputable section

namespace Cert.AllReduceNorm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

abbrev 𝒱₀ : Variants := Variants.none

/-- Running `p` on device `c` reaches `K`. -/
abbrev run (c : Dev nD) (p : KProg F) (K : PUnit → sProp 𝕄) : sProp 𝕄 :=
  wp frame (wpE (defs₀ (F := F)) 𝒱₀ (c : Thread nD τ) none) Set.univ p K

/-! ## A loop over chunks -/

/-- A loop runs by a rule for one chunk: `P k` is what chunk `k` takes, `Q k` what it leaves, `I ks` what holds while the
    chunks `ks` are still to do. -/
theorem run_each (c : Dev nD) (f : Fin 8 → KProg F) (P Q : Fin 8 → sProp 𝕄) (I : List (Fin 8) → sProp 𝕄)
    (H : ∀ (k : Fin 8) (ks : List (Fin 8)) (K : PUnit → sProp 𝕄), iprop(P k ∗ I (k :: ks) ∗ ((Q k ∗ I ks) -∗ K ⟨⟩)) ⊢ run c (f k) K) :
    ∀ (ks : List (Fin 8)) (K : PUnit → sProp 𝕄), iprop(bigSepL ks P ∗ I ks ∗ ((bigSepL ks Q ∗ I []) -∗ K ⟨⟩)) ⊢ run c (each f ks) K
  | [], K => by
    show _ ⊢ wp frame _ Set.univ (.ret ⟨⟩) K
    rw [wp_ret, bigSepL_nil, bigSepL_nil]
    iintro ⟨-, HI, HK⟩
    imodintro
    iapply HK
    isplitr [HI]; · iempintro
    iexact HI
  | k :: ks, K => by
    show _ ⊢ wp frame _ Set.univ (f k >>= fun _ => each f ks) K
    rw [wp_bind, bigSepL_cons', bigSepL_cons']
    iintro ⟨⟨HP, HPs⟩, HI, HK⟩
    iapply (H k ks _)
    isplitl [HP]; · iexact HP
    isplitl [HI]; · iexact HI
    iintro ⟨HQ, HI⟩
    iapply (run_each c f P Q I H ks K)
    isplitl [HPs]; · iexact HPs
    isplitl [HI]; · iexact HI
    iintro ⟨HQs, HI⟩
    iapply HK
    isplitr [HI]
    · isplitl [HQ]; · iexact HQ
      iexact HQs
    iexact HI

/-! ## The buffers a chunk works on -/

/-- The sum, the scale and the result buffer of device `c`. -/
abbrev pPts (c : Dev nD) : sProp 𝕄 := (pM : Memref sig .tc .vmem S512x512 .f32).view.loc (c : Thread nD τ) ↦{fullShare} preV m c
abbrev gPts (c : Dev nD) : sProp 𝕄 := (gM : Memref sig .tc .vmem S1x512 .f32).view.loc (c : Thread nD τ) ↦{fullShare} gIn m c
abbrev oPts (c : Dev nD) (f : Vec F S512x512 .f32) : sProp 𝕄 := (oM : Memref sig .tc .vmem S512x512 .f32).view.loc (c : Thread nD τ) ↦{fullShare} f

/-- Completing block `q` from a chunk that holds `w`. -/
theorem run_rows (c : Dev nD) (h : Fin 2) (k : Fin 8) (q : Fin 16) (off : Fin 2 → Nat) (inb : ∀ a, off a + S32x512.size a ≤ S512x512.size a)
    (hoff : off = ![32 * q.val, 0]) (sh : PosShare TreeShare) (w : Vec F S32x512 .bf16) (f : Vec F S512x512 .f32) (K : PUnit → sProp 𝕄) :
    iprop(pPts m c ∗ gPts m c ∗ oPts c f ∗ owns (c : Thread nD τ) (vC h k) sh w
        ∗ ((pPts m c ∗ gPts m c ∗ oPts c (putBlk f q (normRows (blkOf (preV m c) q) w (gIn m c))) ∗ owns (c : Thread nD τ) (vC h k) sh w) -∗ K ⟨⟩))
      ⊢ run c (rows off inb h k) K := by
  subst hoff
  unfold rows owns
  simp only [Prog.lift, Prog.bind_op, Prog.bind_ret, Prog.pure_eq_ret]
  iintro ⟨Hp, Hg, Ho, ⟨%fv, %hfv, Hv⟩, HK⟩
  iapply (wp_load 𝒱₀ (c : Thread nD τ) none Set.univ (m := pM) (Finset.subset_univ _)) $$ Hp
  iintro Hp
  iapply (wp_load 𝒱₀ (c : Thread nD τ) none Set.univ (m := vM) (S := (vC h k).view.set) (by
    rw [vC_set (h, k)]; exact (Finset.map_refl (s := _)).subset)) $$ Hv
  iintro Hv
  iapply (wp_load 𝒱₀ (c : Thread nD τ) none Set.univ (m := gM) (Finset.subset_univ _)) $$ Hg
  iintro Hg
  iapply (wp_load 𝒱₀ (c : Thread nD τ) none Set.univ (m := oM) (Finset.subset_univ _)) $$ Ho
  iintro Ho
  iapply (wp_store 𝒱₀ (c : Thread nD τ) none Set.univ (m := oM) (r := blkRect q) (f := f) (S := Finset.univ) (Finset.subset_univ _)) $$ Ho
  iintro Ho
  rw [wp_ret]; imodintro
  have hg : (gM : Memref sig .tc .vmem S1x512 .f32).view.readAt (Elt F) fullG.toLoadRect (gIn m c) = gIn m c :=
    Memref.readAt_unit_zero (Elt F) cc0_stg2_0 (by decide) _ _
  have hv : shapeCast S32x512 ((vM : Memref sig .tc .vmem S2x256x512 .bf16).view.readAt (Elt F) (vRect h k).toLoadRect fv) shapeCasts_S1x32x512_S32x512 = w :=
    (Memref.read_squeeze_slice vM (vRect h k) (fun _ => rfl) squeezes_S1x32x512_S32x512 shapeCasts_S1x32x512_S32x512 fv).symm.trans hfv
  rw [hg, normRows_eq, hv]
  iapply HK
  isplitl [Hp]; · iexact Hp
  isplitl [Hg]; · iexact Hg
  isplitl [Ho]; · iexact Ho
  iexists fv
  isplitr; · ipureintro; exact hfv
  iexact Hv

/-! ## The cells' invariants -/

/-- The barrier cells, one a device. -/
def barEmb : Dev nD ↪ GSem nD τ sig := ⟨fun c => cell c none, fun c c' h => congrArg (fun g : GSem nD τ sig => g.1.1) h⟩
/-- The DMA cells, 32 a device. -/
def dmaEmb : Dev nD × (Fin 4 × Fin 8) ↪ GSem nD τ sig :=
  ⟨fun p => cell p.1 (some p.2), fun p p' h => Prod.ext (congrArg (fun g : GSem nD τ sig => g.1.1) h) (Option.some.inj (csem_inj _ _ (congrArg Prod.snd h)))⟩
/-- The barrier cells and the DMA cells of all devices. -/
def barCells : Finset (GSem nD τ sig) := Finset.univ.map barEmb
/-- All DMA cells. -/
def dmaCells : Finset (GSem nD τ sig) := Finset.univ.map dmaEmb

/-- Every cell of a device is among them. -/
theorem mem_cells (c : Dev nD) : ∀ i : Cell, cell c i ∈ barCells ∪ dmaCells
  | none => Finset.mem_union_left _ (Finset.mem_map_of_mem barEmb (Finset.mem_univ c))
  | some jk => Finset.mem_union_right _ (Finset.mem_map_of_mem dmaEmb (Finset.mem_univ (c, jk)))

/-- What everyone may use at any time: the invariant of every cell, and the levels. -/
def ctx (κ : GSem nD τ sig → ℕ) : sProp 𝕄 :=
  iprop((bigSep (barCells ∪ dmaCells) fun g => cellInv (ER (F := F)) (sched m) (κ g) g) ∗ levAts L lv)

/-- The shared facts may be used any number of times. -/
instance ctx_persistent (κ : GSem nD τ sig → ℕ) : BI.Persistent (ctx m κ) := by unfold ctx; infer_instance

/-- The shared facts hold the invariant of every cell. -/
theorem inv_at (κ : GSem nD τ sig → ℕ) (c : Dev nD) (i : Cell) : ctx m κ ⊢ cellInv (ER (F := F)) (sched m) (κ (cell c i)) (cell c i) := by
  unfold ctx
  iintro ⟨H, -⟩
  ihave H' := (show (bigSep (barCells ∪ dmaCells) fun g => (cellInv (ER (F := F)) (sched m) (κ g) g : sProp 𝕄)) ⊢ cellInv (ER (F := F)) (sched m) (κ (cell c i)) (cell c i)
    from bigSep_elim (mem_cells c i)) $$ H
  iexact H'
/-- A device may wait on a cell that lies below all that it owes. -/
theorem ctx_may (κ : GSem nD τ sig → ℕ) (c : Dev nD) (i : Cell) {O : CellTallies nD τ sig Unit} (h : Above (lvOf (some i)) O) :
    ctx m κ ⊢ MayWait (c : Thread nD τ) (csem i) () O := by
  unfold ctx
  iintro ⟨-, H⟩
  iapply (mayWait c i h) $$ H

/-! ## The first hop's send -/

/-- A chunk's duty on a cell and that the cell is ready for it. -/
abbrev turn (c : Dev nD) (j : Fin 4) (k : Fin 8) : sProp 𝕄 :=
  iprop(dutyTok (ER (F := F)) (cell c (some (j, k))) 0 false ∗ reached (ER (F := F)) (cell c (some (j, k))) 0)
/-- Chunk `k` of half `h` of device `d`'s receive buffer, at contents not chosen. -/
abbrev slot (d : Dev nD) (h : Fin 2) (k : Fin 8) : sProp 𝕄 :=
  iprop(∃ f : Buf (Elt F) ((vC h k).view.loc (d : Thread nD τ)), (vC h k).view.loc (d : Thread nD τ) ↦[(vC h k).view.set]{fullShare} f)
/-- Device `c`'s right to wait once on its cell `(j, k)`. -/
abbrev token (c : Dev nD) (j : Fin 4) (k : Fin 8) : sProp 𝕄 := cred (tallyAt (cell c (some (j, k))) () N)
abbrev posAt (c : Dev nD) (r : ℕ) (j : Fin 4) (k : Fin 8) : sProp 𝕄 := atPos (ER (F := F)) (cell c (some (j, k))) r ∅ 0

/-- A DMA cell has its one duty in its first round. -/
theorem mem_duty (c : Dev nD) (jk : Fin 4 × Fin 8) : false ∈ (sched (F := F) m).duties (cell c (some jk)) 0 := by
  rw [duties_cell]; exact Finset.mem_singleton_self _

/-- What sending chunk `k` along x needs. -/
def sendPre (c : Dev nD) (k : Fin 8) : sProp 𝕄 :=
  iprop(owns (c : Thread nD τ) (sC k) fullShare (chunkV m c k) ∗ slot (xDev c) 0 k ∗ turn c 0 k ∗ turn (xDev c) 1 k)

/-- Sending chunk `k` along x pays the receive duty of the neighbour. -/
theorem run_sendX (κ : GSem nD τ sig → ℕ) (c : Dev nD) (k : Fin 8) (ks : List (Fin 8)) (K : PUnit → sProp 𝕄) :
    iprop(sendPre m c k ∗ (ctx m κ ∗ ∃ W, owes (c : Thread nD τ) (owedX c (k :: ks)) W)
        ∗ ((token c 0 k ∗ (ctx m κ ∗ ∃ W, owes (c : Thread nD τ) (owedX c ks) W)) -∗ K ⟨⟩))
      ⊢ run c (sendX c k) K := by
  unfold sendPre owns sendX
  simp only [Prog.lift]
  iintro ⟨⟨⟨%fs, %hfs, Hs⟩, ⟨%fd, Hd⟩, ⟨Ht, #Hr⟩, ⟨Ht', #Hr'⟩⟩, ⟨#Hctx, ⟨%W, HO⟩⟩, HK⟩
  iapply (Rounds.wp_send_pointsTo 𝒱₀ ER (sched m) (c : Thread nD τ) none (c' := (xDev c : Thread nD τ)) (src := sC k) (dst := vC 0 k)
      (sS := .dma (dsem 0 k)) (sem := .dma (dsem 1 k)) (q := fullShare) (fs := fs) (κ₁ := κ (cell c (some (0, k)))) (κ₂ := κ (cell (xDev c) (some (1, k))))
      (r₁ := 0) (r₂ := 0) (d₁ := false) (d₂ := false) (fd := fd)
      (mem_duty m c (0, k)) (mem_duty m (xDev c) (1, k))
      () () N rfl (amount_cell m c (some (0, k)) false) (amount_cell m (xDev c) (some (1, k)) false) (owedX c ks) rfl (W := W)
      (by rw [payload_cell m c (some (0, k))]; show _ ⊢ owns (c : Thread nD τ) (sC k) fullShare (chunkV m c k); rw [← hfs]; exact owns_intro _ _ _ _)
      (by
        rw [payload_cell m (xDev c) (some (1, k))]
        show _ ⊢ owns (xDev c : Thread nD τ) (vC 0 k) fullShare (chunkV m (xDev (xDev c)) k)
        refine (owns_intro _ _ _ _).trans (Entails.of_eq ?_)
        rw [View.read_write_univ, hfs, xDev_xDev])) $$ [Hs Hd HO Ht Ht']
  · isplitr; · iapply (inv_at m κ c (some (0, k))); iexact Hctx
    isplitr; · iapply (inv_at m κ (xDev c) (some (1, k))); iexact Hctx
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  rw [wp_ret]; imodintro
  iapply HK
  isplitl [Hc]; · iexact Hc
  isplitr; · iexact Hctx
  iexists W; iexact HO

/-! ## The two hops' chunks -/

/-- The blocks written once the chunks `ks` of the first hop are still to do, and once those of the second are. -/
def doneX (c : Dev nD) (ks : List (Fin 8)) (q : Fin 16) : Prop := ∃ k, k ∉ ks ∧ q = ownQ c k
/-- The blocks that are written while the second half is under way: all of the own half, and those of the chunks that are done. -/
def doneY (c : Dev nD) (ks : List (Fin 8)) (q : Fin 16) : Prop := (∃ k, q = ownQ c k) ∨ ∃ k, k ∉ ks ∧ q = othQ c k

/-- What the chunks of a hop share: the sum, the scale, the result buffer with the blocks `S` written, and what is owed. -/
def hop (κ : GSem nD τ sig → ℕ) (c : Dev nD) (S : Fin 16 → Prop) (O : CellTallies nD τ sig Unit) : sProp 𝕄 :=
  iprop(ctx m κ ∗ pPts m c ∗ gPts m c ∗ (∃ f, ⌜Done m c S f⌝ ∗ oPts c f) ∗ ∃ W, owes (c : Thread nD τ) O W)

/-- What the step of chunk `k` in the first half needs. -/
def stepXPre (c : Dev nD) (k : Fin 8) : sProp 𝕄 :=
  iprop(posAt c 0 1 k ∗ token c 1 k ∗ slot (yDev c) 1 k ∗ turn c 2 k ∗ turn (yDev c) 3 k)
/-- What that step leaves. -/
def stepXPost (c : Dev nD) (k : Fin 8) : sProp 𝕄 :=
  iprop(posAt c 1 1 k ∗ token c 2 k ∗ owns (c : Thread nD τ) (vC 0 k) fullShare.left (chunkV m (xDev c) k))

/-- Chunk `k` in the first half: it arrives, is sent on along y, is read, and its block is written. -/
theorem run_stepX (κ : GSem nD τ sig → ℕ) (c : Dev nD) (k : Fin 8) (ks : List (Fin 8)) (K : PUnit → sProp 𝕄) :
    iprop(stepXPre c k ∗ hop m κ c (doneX c (k :: ks)) (owedY c (k :: ks))
        ∗ ((stepXPost m c k ∗ hop m κ c (doneX c ks) (owedY c ks)) -∗ K ⟨⟩))
      ⊢ run c (stepX c k) K := by
  unfold stepXPre stepXPost hop stepX
  simp only [Prog.lift, Prog.bind_op, Prog.bind_ret]
  iintro ⟨⟨Hat, Hc, ⟨%fd, Hd⟩, ⟨Ht, #Hr⟩, ⟨Ht', #Hr'⟩⟩, ⟨#Hctx, Hp, Hg, ⟨%f, %hf, Ho⟩, ⟨%W, HO⟩⟩, HK⟩
  iapply (Rounds.wp_wait_rest_token 𝒱₀ ER (sched m) (c : Thread nD τ) none (κ := κ (cell c (some (1, k))))
      (wpE_waitDma2_eq (src := sC k) (dst := vC 0 k) 𝒱₀ (c : Thread nD τ) none Set.univ) (Set.mem_univ _) () (O := owedY c (k :: ks)) (W := W) (R := 0) (m := 0) (T := ∅)
      ((Nat.zero_add _).trans (expect_dma m c 1 k).symm)) $$ [Hc HO Hat]
  · isplitr; · iapply (inv_at m κ c (some (1, k))); iexact Hctx
    isplitl [Hc]; · iexact Hc
    isplitl [HO]; · iexact HO
    isplitr; · iapply (ctx_may m κ c (some (1, k)) (above_owedY c (k :: ks))); iexact Hctx
    iexact Hat
  iintro ⟨HO, Hat, -, Hpay⟩
  ihave Hv := (Entails.of_eq ((rest_dma m c 1 k).trans (show dmaPay m c k 1 = owns (c : Thread nD τ) (vC 0 k) fullShare (chunkV m (xDev c) k) from rfl))) $$ Hpay
  ihave Hv' := (owns_halves (c : Thread nD τ) (vC 0 k) fullShare (chunkV m (xDev c) k)).1 $$ Hv
  icases Hv' with ⟨Hv, Hvr⟩
  ihave Hvr' := (show owns (c : Thread nD τ) (vC 0 k) fullShare.right (chunkV m (xDev c) k)
    ⊢ (iprop(∃ g, ⌜(vC 0 k).view.read (Elt F) g = chunkV m (xDev c) k⌝ ∗ (vC 0 k).view.loc (c : Thread nD τ) ↦[(vC 0 k).view.set]{fullShare.right} g) : sProp 𝕄) from .rfl) $$ Hvr
  icases Hvr' with ⟨%fs, %hfs, Hs⟩
  iapply (Rounds.wp_send_pointsTo 𝒱₀ ER (sched m) (c : Thread nD τ) none (c' := (yDev c : Thread nD τ)) (src := vC 0 k) (dst := vC 1 k)
      (sS := .dma (dsem 2 k)) (sem := .dma (dsem 3 k)) (q := fullShare.right) (fs := fs) (κ₁ := κ (cell c (some (2, k)))) (κ₂ := κ (cell (yDev c) (some (3, k))))
      (r₁ := 0) (r₂ := 0) (d₁ := false) (d₂ := false) (fd := fd)
      (mem_duty m c (2, k)) (mem_duty m (yDev c) (3, k))
      () () N rfl (amount_cell m c (some (2, k)) false) (amount_cell m (yDev c) (some (3, k)) false) (owedY c ks) rfl
      (by rw [payload_cell m c (some (2, k))]; show _ ⊢ owns (c : Thread nD τ) (vC 0 k) fullShare.right (chunkV m (xDev c) k); rw [← hfs]; exact owns_intro _ _ _ _)
      (by
        rw [payload_cell m (yDev c) (some (3, k))]
        show _ ⊢ owns (yDev c : Thread nD τ) (vC 1 k) fullShare (chunkV m (xDev (yDev (yDev c))) k)
        refine (owns_intro _ _ _ _).trans (Entails.of_eq ?_)
        rw [View.read_write_univ, hfs, yDev_yDev])) $$ [Hs Hd HO Ht Ht']
  · isplitr; · iapply (inv_at m κ c (some (2, k))); iexact Hctx
    isplitr; · iapply (inv_at m κ (yDev c) (some (3, k))); iexact Hctx
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  iapply (run_rows m c 0 k (ownQ c k) _ _ (own_off c k) fullShare.left (chunkV m (xDev c) k) f K)
  isplitl [Hp]; · iexact Hp
  isplitl [Hg]; · iexact Hg
  isplitl [Ho]; · iexact Ho
  isplitl [Hv]; · iexact Hv
  rw [val_own]
  iintro ⟨Hp, Hg, Ho, Hv⟩
  iapply HK
  isplitl [Hat Hc Hv]
  · isplitl [Hat]; · iexact Hat
    isplitl [Hc]; · iexact Hc
    iexact Hv
  isplitr; · iexact Hctx
  isplitl [Hp]; · iexact Hp
  isplitl [Hg]; · iexact Hg
  isplitl [Ho]
  · iexists _
    isplitr
    · ipureintro
      exact done_put m hf fun q' ⟨k', hk', hq'⟩ => by
        by_cases e : k' = k
        · exact .inl (by rw [hq', e])
        · exact .inr ⟨k', fun hm => (List.mem_cons.mp hm).elim e hk', hq'⟩
    iexact Ho
  iexists _; iexact HO

/-- What the step of chunk `k` in the second half needs. -/
def stepYPre (c : Dev nD) (k : Fin 8) : sProp 𝕄 := iprop(posAt c 0 3 k ∗ token c 3 k)
/-- What that step leaves. -/
def stepYPost (c : Dev nD) (k : Fin 8) : sProp 𝕄 := iprop(posAt c 1 3 k ∗ owns (c : Thread nD τ) (vC 1 k) fullShare (chunkV m (xDev (yDev c)) k))

/-- Chunk `k` in the second half: it arrives, is read, and its block is written. -/
theorem run_stepY (κ : GSem nD τ sig → ℕ) (c : Dev nD) (k : Fin 8) (ks : List (Fin 8)) (K : PUnit → sProp 𝕄) :
    iprop(stepYPre c k ∗ hop m κ c (doneY c (k :: ks)) 0 ∗ ((stepYPost m c k ∗ hop m κ c (doneY c ks) 0) -∗ K ⟨⟩))
      ⊢ run c (stepY c k) K := by
  unfold stepYPre stepYPost hop stepY
  simp only [Prog.lift, Prog.bind_op, Prog.bind_ret]
  iintro ⟨⟨Hat, Hc⟩, ⟨#Hctx, Hp, Hg, ⟨%f, %hf, Ho⟩, ⟨%W, HO⟩⟩, HK⟩
  iapply (Rounds.wp_wait_rest_token 𝒱₀ ER (sched m) (c : Thread nD τ) none (κ := κ (cell c (some (3, k))))
      (wpE_waitDma2_eq (src := vC 0 k) (dst := vC 1 k) 𝒱₀ (c : Thread nD τ) none Set.univ) (Set.mem_univ _) () (O := 0) (W := W) (R := 0) (m := 0) (T := ∅)
      ((Nat.zero_add _).trans (expect_dma m c 3 k).symm)) $$ [Hc HO Hat]
  · isplitr; · iapply (inv_at m κ c (some (3, k))); iexact Hctx
    isplitl [Hc]; · iexact Hc
    isplitl [HO]; · iexact HO
    isplitr; · rw [MayWait_zero]; iempintro
    iexact Hat
  iintro ⟨HO, Hat, -, Hpay⟩
  ihave Hv := (Entails.of_eq ((rest_dma m c 3 k).trans (show dmaPay m c k 3 = owns (c : Thread nD τ) (vC 1 k) fullShare (chunkV m (xDev (yDev c)) k) from rfl))) $$ Hpay
  iapply (run_rows m c 1 k (othQ c k) _ _ (oth_off c k) fullShare (chunkV m (xDev (yDev c)) k) f K)
  isplitl [Hp]; · iexact Hp
  isplitl [Hg]; · iexact Hg
  isplitl [Ho]; · iexact Ho
  isplitl [Hv]; · iexact Hv
  rw [val_oth]
  iintro ⟨Hp, Hg, Ho, Hv⟩
  iapply HK
  isplitl [Hat Hv]
  · isplitl [Hat]; · iexact Hat
    iexact Hv
  isplitr; · iexact Hctx
  isplitl [Hp]; · iexact Hp
  isplitl [Hg]; · iexact Hg
  isplitl [Ho]
  · iexists _
    isplitr
    · ipureintro
      exact done_put m hf fun q' hq => by
        rcases hq with h | ⟨k', hk', hq'⟩
        · exact .inr (.inl h)
        · by_cases e : k' = k
          · exact .inl (by rw [hq', e])
          · exact .inr (.inr ⟨k', fun hm => (List.mem_cons.mp hm).elim e hk', hq'⟩)
    iexact Ho
  iexists _; iexact HO

/-! ## The last waits -/

/-- What the last two waits of chunk `k` need. -/
def drainPre (c : Dev nD) (k : Fin 8) : sProp 𝕄 := iprop(posAt c 0 0 k ∗ token c 0 k ∗ posAt c 0 2 k ∗ token c 2 k)
/-- What those waits leave. -/
def drainPost (c : Dev nD) (k : Fin 8) : sProp 𝕄 :=
  iprop(posAt c 1 0 k ∗ posAt c 1 2 k ∗ owns (c : Thread nD τ) (sC k) fullShare (chunkV m c k) ∗ owns (c : Thread nD τ) (vC 0 k) fullShare.right (chunkV m (xDev c) k))

/-- The last two waits of chunk `k` bring back what its two copies read. -/
theorem run_drain (κ : GSem nD τ sig → ℕ) (c : Dev nD) (k : Fin 8) (K : PUnit → sProp 𝕄) :
    iprop(drainPre c k ∗ (ctx m κ ∗ ∃ W, owes (c : Thread nD τ) (0 : CellTallies nD τ sig Unit) W)
        ∗ ((drainPost m c k ∗ (ctx m κ ∗ ∃ W, owes (c : Thread nD τ) (0 : CellTallies nD τ sig Unit) W)) -∗ K ⟨⟩))
      ⊢ run c (drain k) K := by
  unfold drainPre drainPost drain
  simp only [Prog.lift, Prog.bind_op, Prog.bind_ret]
  iintro ⟨⟨Hat, Hc, Hat', Hc'⟩, ⟨#Hctx, ⟨%W, HO⟩⟩, HK⟩
  iapply (Rounds.wp_wait_rest_token 𝒱₀ ER (sched m) (c : Thread nD τ) none (κ := κ (cell c (some (0, k))))
      (wpE_waitDma2_eq (src := vC 0 k) (dst := sC k) 𝒱₀ (c : Thread nD τ) none Set.univ) (Set.mem_univ _) () (O := 0) (W := W) (R := 0) (m := 0) (T := ∅)
      ((Nat.zero_add _).trans (expect_dma m c 0 k).symm)) $$ [Hc HO Hat]
  · isplitr; · iapply (inv_at m κ c (some (0, k))); iexact Hctx
    isplitl [Hc]; · iexact Hc
    isplitl [HO]; · iexact HO
    isplitr; · rw [MayWait_zero]; iempintro
    iexact Hat
  iintro ⟨HO, Hat, -, Hpay⟩
  ihave Hs := (Entails.of_eq ((rest_dma m c 0 k).trans (show dmaPay m c k 0 = owns (c : Thread nD τ) (sC k) fullShare (chunkV m c k) from rfl))) $$ Hpay
  iapply (Rounds.wp_wait_rest_token 𝒱₀ ER (sched m) (c : Thread nD τ) none (κ := κ (cell c (some (2, k))))
      (wpE_waitDma2_eq (src := vC 1 k) (dst := vC 0 k) 𝒱₀ (c : Thread nD τ) none Set.univ) (Set.mem_univ _) () (O := 0) (R := 0) (m := 0) (T := ∅)
      ((Nat.zero_add _).trans (expect_dma m c 2 k).symm)) $$ [Hc' HO Hat']
  · isplitr; · iapply (inv_at m κ c (some (2, k))); iexact Hctx
    isplitl [Hc']; · iexact Hc'
    isplitl [HO]; · iexact HO
    isplitr; · rw [MayWait_zero]; iempintro
    iexact Hat'
  iintro ⟨HO, Hat', -, Hpay⟩
  ihave Hv := (Entails.of_eq ((rest_dma m c 2 k).trans (show dmaPay m c k 2 = owns (c : Thread nD τ) (vC 0 k) fullShare.right (chunkV m (xDev c) k) from rfl))) $$ Hpay
  rw [wp_ret]; imodintro
  iapply HK
  isplitr [HO]
  · isplitl [Hat]; · iexact Hat
    isplitl [Hat']; · iexact Hat'
    isplitl [Hs]; · iexact Hs
    iexact Hv
  isplitr; · iexact Hctx
  iexists _; iexact HO

end Cert.AllReduceNorm

end

end
-- ==== Proof.Body.lean ====
/-
  The kernel body on one device, from everything the device holds when it starts to everything it holds when it returns.
-/
module

public import proofs.«01_k».proof.Proof.Chunks

@[expose] public section

noncomputable section

namespace Cert.AllReduceNorm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Families over the chunks -/

/-- The tokens of all eight duties on the cells of row `j`. -/
def toks (c : Dev nD) (j : Fin 4) : sProp 𝕄 := bigSep Finset.univ fun k : Fin 8 => dutyTok (ER (F := F)) (cell c (some (j, k))) 0 false
/-- The credits of all eight cells of row `j`. -/
def creds (c : Dev nD) (j : Fin 4) : sProp 𝕄 := bigSep Finset.univ fun k : Fin 8 => token c j k
/-- Device `c` stands at round `r` of all eight cells of row `j`. -/
def ats (c : Dev nD) (r : ℕ) (j : Fin 4) : sProp 𝕄 := bigSep Finset.univ fun k : Fin 8 => posAt c r j k

/-- That the cells of a row are ready may be used any number of times. -/
instance ready_persistent (c : Dev nD) (j : Fin 4) : BI.Persistent (ready (F := F) c j) := by unfold ready; infer_instance

/-- Every chunk number is in the list. -/
theorem mem_chunks : ∀ k : Fin 8, k ∈ chunks := by decide

/-- What the eight sends along x need, gathered from what the device holds by kind. -/
theorem sendPre_all (c : Dev nD) :
    iprop((bigSep Finset.univ fun k : Fin 8 => owns (c : Thread nD τ) (sC k) fullShare (chunkV m c k)) ∗ free (xDev c) 0
        ∗ (toks c 0 ∗ ready c 0) ∗ (toks (xDev c) 1 ∗ ready (xDev c) 1))
      ⊢ bigSep Finset.univ (sendPre m c) := by
  unfold toks ready free sendPre
  simp only [← bigSep_sep']
  exact .rfl
/-- What the eight steps of the first half need, gathered in the same way. -/
theorem stepXPre_all (c : Dev nD) :
    iprop(ats c 0 1 ∗ creds c 1 ∗ free (yDev c) 1 ∗ (toks c 2 ∗ ready c 2) ∗ (toks (yDev c) 3 ∗ ready (yDev c) 3))
      ⊢ bigSep Finset.univ (stepXPre (F := F) c) := by
  unfold ats creds toks ready free stepXPre
  simp only [← bigSep_sep']
  exact .rfl
/-- What the eight steps of the second half need. -/
theorem stepYPre_all (c : Dev nD) : iprop(ats c 0 3 ∗ creds c 3) ⊢ bigSep Finset.univ (stepYPre (F := F) c) := by
  unfold ats creds stepYPre
  simp only [← bigSep_sep']
  exact .rfl
/-- What the eight last waits need. -/
theorem drainPre_all (c : Dev nD) : iprop(ats c 0 0 ∗ creds c 0 ∗ ats c 0 2 ∗ creds c 2) ⊢ bigSep Finset.univ (drainPre (F := F) c) := by
  unfold ats creds drainPre
  simp only [← bigSep_sep']
  exact .rfl
/-- What the eight steps of the first half leave, by kind. -/
theorem stepXPost_all (c : Dev nD) :
    bigSep Finset.univ (stepXPost m c)
      ⊢ iprop(ats c 1 1 ∗ creds c 2 ∗ bigSep Finset.univ fun k : Fin 8 => owns (c : Thread nD τ) (vC 0 k) fullShare.left (chunkV m (xDev c) k)) := by
  unfold ats creds stepXPost
  simp only [← bigSep_sep']
  exact .rfl
/-- What the eight steps of the second half leave, by kind. -/
theorem stepYPost_all (c : Dev nD) :
    bigSep Finset.univ (stepYPost m c)
      ⊢ iprop(ats c 1 3 ∗ bigSep Finset.univ fun k : Fin 8 => owns (c : Thread nD τ) (vC 1 k) fullShare (chunkV m (xDev (yDev c)) k)) := by
  unfold ats stepYPost
  simp only [← bigSep_sep']
  exact .rfl
/-- What the eight last waits leave, by kind. -/
theorem drainPost_all (c : Dev nD) :
    bigSep Finset.univ (drainPost m c)
      ⊢ iprop(ats c 1 0 ∗ ats c 1 2 ∗ (bigSep Finset.univ fun k : Fin 8 => owns (c : Thread nD τ) (sC k) fullShare (chunkV m c k))
          ∗ bigSep Finset.univ fun k : Fin 8 => owns (c : Thread nD τ) (vC 0 k) fullShare.right (chunkV m (xDev c) k)) := by
  unfold ats drainPost
  simp only [← bigSep_sep']
  exact .rfl

/-- A chunk held at named contents is a chunk held at some contents. -/
theorem owns_slot (c : Dev nD) (h : Fin 2) (k : Fin 8) (w : Vec F S32x512 .bf16) : owns (c : Thread nD τ) (vC h k) fullShare w ⊢ (slot c h k : sProp 𝕄) := by
  unfold owns; iintro ⟨%f, -, H⟩; iexists f; iexact H

/-- Both halves of the ownership of every chunk of the first half of the receive buffer are that half, free. -/
theorem free_of_halves (c : Dev nD) (w : Fin 8 → Vec F S32x512 .bf16) :
    iprop((bigSep Finset.univ fun k : Fin 8 => owns (c : Thread nD τ) (vC 0 k) fullShare.left (w k))
        ∗ bigSep Finset.univ fun k : Fin 8 => owns (c : Thread nD τ) (vC 0 k) fullShare.right (w k)) ⊢ (free c 0 : sProp 𝕄) := by
  unfold free
  rw [← bigSep_sep']
  exact bigSep_mono fun k _ => (owns_halves (c : Thread nD τ) (vC 0 k) fullShare (w k)).2.trans (owns_slot c 0 k (w k))
/-- The whole ownership of every chunk of the second half of the receive buffer is that half, free. -/
theorem free_of_owns (c : Dev nD) (w : Fin 8 → Vec F S32x512 .bf16) :
    (bigSep Finset.univ fun k : Fin 8 => owns (c : Thread nD τ) (vC 1 k) fullShare (w k)) ⊢ (free c 1 : sProp 𝕄) := by
  unfold free
  exact bigSep_mono fun k _ => owns_slot c 1 k (w k)

/-! ## The scratch buffers, whole and in chunks -/

abbrev sPts (c : Dev nD) (f : Vec F S256x512 .bf16) : sProp 𝕄 := (sM : Memref sig .tc .vmem S256x512 .bf16).view.loc (c : Thread nD τ) ↦{fullShare} f
abbrev vPts (c : Dev nD) (f : Vec F S2x256x512 .bf16) : sProp 𝕄 := (vM : Memref sig .tc .vmem S2x256x512 .bf16).view.loc (c : Thread nD τ) ↦{fullShare} f
abbrev pAny (c : Dev nD) (f : Vec F S512x512 .f32) : sProp 𝕄 := (pM : Memref sig .tc .vmem S512x512 .f32).view.loc (c : Thread nD τ) ↦{fullShare} f
abbrev xPts (c : Dev nD) : sProp 𝕄 := (xM : Memref sig .tc .vmem S512x512 .f32).view.loc (c : Thread nD τ) ↦{fullShare} xIn m c
abbrev rPts (c : Dev nD) : sProp 𝕄 := (resM : Memref sig .tc .vmem S512x512 .f32).view.loc (c : Thread nD τ) ↦{fullShare} rIn m c

abbrev sI (k : Fin 8) : Finset S256x512.Idx := (sC k).view.set
abbrev vI (t : Fin 2 × Fin 8) : Finset S2x256x512.Idx := (vC t.1 t.2).view.set

/-- Different chunks of the send buffer share no element. -/
theorem sI_disjoint (k k' : Fin 8) (h : k ≠ k') : Disjoint (sI k) (sI k') := by
  unfold sI; rw [sC_set, sC_set]; exact s_disjoint k k' h
/-- The chunks of the send buffer are all of it. -/
theorem sI_cover : (Finset.univ : Finset (Fin 8)).biUnion sI = Finset.univ :=
  (Finset.biUnion_congr rfl fun k _ => sC_set k).trans s_cover
/-- Different chunks of the receive buffer share no element. -/
theorem vI_disjoint (t t' : Fin 2 × Fin 8) (h : t ≠ t') : Disjoint (vI t) (vI t') := by
  unfold vI; rw [vC_set, vC_set]; exact v_disjoint t t' h
/-- The chunks of both halves of the receive buffer are all of it. -/
theorem vI_cover : (Finset.univ : Finset (Fin 2 × Fin 8)).biUnion vI = Finset.univ :=
  (Finset.biUnion_congr rfl fun t _ => vC_set t).trans v_cover

/-- A store of a whole buffer leaves what was stored. -/
theorem store_s (f w : Vec F S256x512 .bf16) : ((sM : Memref sig .tc .vmem S256x512 .bf16).access full256).write (Elt F) f w Finset.univ = w :=
  Memref.write_access_unit_zero_univ (Elt F) cc0_scratch0 (by decide) _ _ _
/-- Storing a whole buffer leaves what was stored. -/
theorem store_p (f w : Vec F S512x512 .f32) : ((pM : Memref sig .tc .vmem S512x512 .f32).access full512).write (Elt F) f w Finset.univ = w :=
  Memref.write_access_unit_zero_univ (Elt F) cc0_scratch2 (by decide) _ _ _
/-- Loading the whole of `x` reads it. -/
theorem load_x (f : Vec F S512x512 .f32) : (xM : Memref sig .tc .vmem S512x512 .f32).view.readAt (Elt F) full512.toLoadRect f = f :=
  Memref.readAt_unit_zero (Elt F) cc0_stg0_0 (by decide) _ _
/-- Loading the whole residual reads it. -/
theorem load_r (f : Vec F S512x512 .f32) : (resM : Memref sig .tc .vmem S512x512 .f32).view.readAt (Elt F) full512.toLoadRect f = f :=
  Memref.readAt_unit_zero (Elt F) cc0_stg1_0 (by decide) _ _

/-- The send buffer, cut into its chunks. -/
theorem s_split (c : Dev nD) : sPts c (sendV m c) ⊢ (bigSep Finset.univ fun k : Fin 8 => owns (c : Thread nD τ) (sC k) fullShare (chunkV m c k) : sProp 𝕄) := by
  unfold sPts
  rw [Ring.pointsTo_blocks sI sI_disjoint sI_cover]
  exact bigSep_mono fun k _ => owns_intro (c : Thread nD τ) (sC k) fullShare (sendV m c)
/-- The chunks of the send buffer, put together. -/
theorem s_join (c : Dev nD) : (bigSep Finset.univ fun k : Fin 8 => owns (c : Thread nD τ) (sC k) fullShare (chunkV m c k)) ⊢ (iprop(∃ f, sPts c f) : sProp 𝕄) := by
  have h (k : Fin 8) : owns (c : Thread nD τ) (sC k) fullShare (chunkV m c k)
      ⊢ (iprop(∃ f : Vec F S256x512 .bf16, (sM : Memref sig .tc .vmem S256x512 .bf16).view.loc (c : Thread nD τ) ↦[sI k]{fullShare} f) : sProp 𝕄) := by
    unfold owns; iintro ⟨%f, -, H⟩; iexists f; iexact H
  have h' : (bigSep Finset.univ fun k : Fin 8 => iprop(∃ f : Vec F S256x512 .bf16, (sM : Memref sig .tc .vmem S256x512 .bf16).view.loc (c : Thread nD τ) ↦[sI k]{fullShare} f))
      ⊢ (iprop(∃ f, sPts c f) : sProp 𝕄) :=
    Ring.pointsTo_blocks_join_exists (ℓ := (sM : Memref sig .tc .vmem S256x512 .bf16).view.loc (c : Thread nD τ)) (q := fullShare) sI sI_disjoint sI_cover (sendV m c)
  exact BIBase.Entails.trans (bigSep_mono fun k _ => h k) h'

/-- The receive buffer, cut into the chunks of its two halves. -/
theorem v_split (c : Dev nD) (f : Vec F S2x256x512 .bf16) : vPts c f ⊢ (iprop(free c 0 ∗ free c 1) : sProp 𝕄) := by
  unfold vPts
  rw [Ring.pointsTo_blocks vI vI_disjoint vI_cover, bigSep_univ_prod, bigSep_fin_two]
  unfold free
  have h (t : Fin 2 × Fin 8) : ((vM : Memref sig .tc .vmem S2x256x512 .bf16).view.loc (c : Thread nD τ) ↦[vI t]{fullShare} f) ⊢ (slot c t.1 t.2 : sProp 𝕄) := by
    iintro H; iexists f; iexact H
  exact BIClass.sep_mono (bigSep_mono fun k _ => h (0, k)) (bigSep_mono fun k _ => h (1, k))
/-- The chunks of the two halves, put together. -/
theorem v_join (c : Dev nD) (f : Vec F S2x256x512 .bf16) : iprop(free c 0 ∗ free c 1) ⊢ (iprop(∃ f, vPts c f) : sProp 𝕄) := by
  have h : (bigSep Finset.univ fun t : Fin 2 × Fin 8 => iprop(∃ f : Vec F S2x256x512 .bf16, (vM : Memref sig .tc .vmem S2x256x512 .bf16).view.loc (c : Thread nD τ) ↦[vI t]{fullShare} f))
    ⊢ (iprop(∃ f, vPts c f) : sProp 𝕄) := Ring.pointsTo_blocks_join_exists (ℓ := (vM : Memref sig .tc .vmem S2x256x512 .bf16).view.loc (c : Thread nD τ)) (q := fullShare) vI vI_disjoint vI_cover f
  rw [bigSep_univ_prod, bigSep_fin_two] at h
  exact h

/-! ## The loops over all chunks -/

/-- A loop over all chunks, from a rule of one step: the steps that are done have their results, the others still what they need. -/
theorem run_chunks (c : Dev nD) (f : Fin 8 → KProg F) (P Q : Fin 8 → sProp 𝕄) (I : List (Fin 8) → sProp 𝕄)
    (H : ∀ (k : Fin 8) (ks : List (Fin 8)) (K : PUnit → sProp 𝕄), iprop(P k ∗ I (k :: ks) ∗ ((Q k ∗ I ks) -∗ K ⟨⟩)) ⊢ run c (f k) K)
    (K : PUnit → sProp 𝕄) :
    iprop(bigSep Finset.univ P ∗ I chunks ∗ ((bigSep Finset.univ Q ∗ I []) -∗ K ⟨⟩)) ⊢ run c (each f chunks) K := by
  rw [bigSep_univ_eq_bigSepL chunks (by decide) (by decide) P, bigSep_univ_eq_bigSepL chunks (by decide) (by decide) Q]
  exact run_each c f P Q I H chunks K

/-! ## The body -/

/-- What device `c` starts with, besides the cells' invariants. -/
def bodyPre (c : Dev nD) : sProp 𝕄 :=
  iprop((atPos (ER (F := F)) (cell c none) 0 ∅ 0 ∗ cred (tallyAt (cell c none) () 2)
      ∗ (dutyTok (ER (F := F)) (cell (xDev c) none) 0 false ∗ reached (ER (F := F)) (cell (xDev c) none) 0)
      ∗ (dutyTok (ER (F := F)) (cell (yDev c) none) 0 true ∗ reached (ER (F := F)) (cell (yDev c) none) 0))
    ∗ ((ats c 0 0 ∗ ats c 0 1 ∗ ats c 0 2 ∗ ats c 0 3) ∗ (ready c 0 ∗ ready c 1 ∗ ready c 2 ∗ ready c 3)
      ∗ (toks c 0 ∗ toks (xDev c) 1 ∗ toks c 2 ∗ toks (yDev c) 3) ∗ creds c 1 ∗ creds c 3)
    ∗ ((∃ f, sPts c f) ∗ (∃ f, vPts c f) ∗ (∃ f, pAny c f))
    ∗ (xPts m c ∗ rPts m c ∗ gPts m c ∗ ∃ f, oPts c f)
    ∗ ∃ W, owes (c : Thread nD τ) (owed₀ c) W)

/-- What it returns with: every cell past its round, the scratch buffers, the operands as they were, the result written. -/
def bodyPost (c : Dev nD) : sProp 𝕄 :=
  iprop((atPos (ER (F := F)) (cell c none) 1 ∅ 0 ∗ ats c 1 0 ∗ ats c 1 1 ∗ ats c 1 2 ∗ ats c 1 3)
    ∗ ((∃ f, sPts c f) ∗ (∃ f, vPts c f) ∗ (∃ f, pAny c f))
    ∗ (xPts m c ∗ rPts m c ∗ gPts m c ∗ oPts c (outAt m c))
    ∗ ∃ W, owes (c : Thread nD τ) (0 : CellTallies nD τ sig Unit) W)

/-- A device's two signals lend its own two halves. -/
theorem lent_x (c : Dev nD) : (sched (F := F) m).payload (cell (xDev c) none) 0 false = lend c 0 1 := by
  rw [payload_cell m (xDev c) none]
  exact congrArg (fun d => lend (F := F) d 0 1) (xDev_xDev c)
/-- What a device gains from its y neighbour's signal is the half of that neighbour's buffer it copies into. -/
theorem lent_y (c : Dev nD) : (sched (F := F) m).payload (cell (yDev c) none) 0 true = lend c 1 3 := by
  rw [payload_cell m (yDev c) none]
  exact congrArg (fun d => lend (F := F) d 1 3) (yDev_yDev c)

set_option maxHeartbeats 1600000 in
theorem run_prog (κ : GSem nD τ sig → ℕ) (c : Dev nD) (K : PUnit → sProp 𝕄) :
    iprop(ctx m κ ∗ bodyPre m c ∗ (bodyPost m c -∗ K ⟨⟩)) ⊢ run c (prog c) K := by
  unfold bodyPre bodyPost prog
  simp only [semSignalWord, semWaitWord, Prog.lift, Prog.bind_op, Prog.bind_ret, Prog.pure_eq_ret]
  iintro ⟨#Hctx, ⟨⟨HatB, HcB, ⟨HtX, #HrX⟩, ⟨HtY, #HrY⟩⟩, ⟨⟨Hat0, Hat1, Hat2, Hat3⟩, ⟨#Hr0, #Hr1, #Hr2, #Hr3⟩, ⟨Ht0, Ht1, Ht2, Ht3⟩, Hc1, Hc3⟩,
    ⟨⟨%fs, Hs⟩, ⟨%fv, Hv⟩, ⟨%fp, Hp⟩⟩, ⟨Hx, Hres, Hg, ⟨%fo, Ho⟩⟩, ⟨%W, HO⟩⟩, HK⟩
  ihave Hv' := (v_split c fv) $$ Hv
  icases Hv' with ⟨Hv0, Hv1⟩
  -- the two barrier signals, lending the two halves of the receive buffer
  iapply (Rounds.wp_signal 𝒱₀ ER (sched m) (c : Thread nD τ) none (dst := (xDev c : Thread nD τ)) (sem := barS) (r := 0) (d := false) (κ := κ (cell (xDev c) none))
      (by rw [duties_cell m (xDev c) none]; exact Finset.mem_univ _) (amount_cell m (xDev c) none false) ()
      (owedX c chunks + tallyAt (cell (yDev c) none) () 1) rfl) $$ [HO HtX Hv0]
  · isplitr; · iapply (inv_at m κ (xDev c) none); iexact Hctx
    isplitl [HO]; · iexact HO
    isplitl [HtX]; · iexact HtX
    isplitl [Hv0]
    · rw [lent_x m c]
      unfold lend
      isplitl [Hv0]; · iexact Hv0
      iexact Hr1
    iexact HrX
  iintro HO
  iapply (Rounds.wp_signal 𝒱₀ ER (sched m) (c : Thread nD τ) none (dst := (yDev c : Thread nD τ)) (sem := barS) (r := 0) (d := true) (κ := κ (cell (yDev c) none))
      (by rw [duties_cell m (yDev c) none]; exact Finset.mem_univ _) (amount_cell m (yDev c) none true) ()
      (owedX c chunks) rfl) $$ [HO HtY Hv1]
  · isplitr; · iapply (inv_at m κ (yDev c) none); iexact Hctx
    isplitl [HO]; · iexact HO
    isplitl [HtY]; · iexact HtY
    isplitl [Hv1]
    · rw [lent_y m c]
      unfold lend
      isplitl [Hv1]; · iexact Hv1
      iexact Hr3
    iexact HrY
  iintro HO
  -- the send buffer
  iapply (wp_load 𝒱₀ (c : Thread nD τ) none Set.univ (m := xM) (Finset.subset_univ _)) $$ Hx
  iintro Hx
  iapply (wp_load 𝒱₀ (c : Thread nD τ) none Set.univ (m := sM) (Finset.subset_univ _)) $$ Hs
  iintro Hs
  iapply (wp_store 𝒱₀ (c : Thread nD τ) none Set.univ (m := sM) (r := full256) (f := fs) (S := Finset.univ) (Finset.subset_univ _)) $$ Hs
  iintro Hs
  ihave Hs := (show (iprop(((sM : Memref sig .tc .vmem S256x512 .bf16).access full256).loc (c : Thread nD τ) ↦{fullShare}
      ((sM : Memref sig .tc .vmem S256x512 .bf16).access full256).write (Elt F) fs (k0_pay1 ((xM : Memref sig .tc .vmem S512x512 .f32).view.readAt (Elt F) (baseRect c).toLoadRect (xIn m c))) Finset.univ) : sProp 𝕄)
      ⊢ sPts c (sendV m c) from Entails.of_eq (by rw [store_s]; rfl)) $$ Hs
  ihave Hs := (s_split m c) $$ Hs
  -- both neighbours are here: their halves come with the wait
  iapply (Rounds.wp_wait_rest_token 𝒱₀ ER (sched m) (c : Thread nD τ) none (κ := κ (cell c none))
      (wpE_semWait_eq 𝒱₀ (c : Thread nD τ) none Set.univ) (Set.mem_univ _) () (O := owedX c chunks) (W := W) (R := 0) (m := 0) (T := ∅)
      ((Nat.zero_add 2).trans (expect_bar m c).symm)) $$ [HcB HO HatB]
  · isplitr; · iapply (inv_at m κ c none); iexact Hctx
    isplitl [HcB]; · iexact HcB
    isplitl [HO]; · iexact HO
    isplitr; · iapply (ctx_may m κ c none (above_owedX c chunks)); iexact Hctx
    iexact HatB
  iintro ⟨HO, HatB, -, Hpay⟩
  ihave Hpay := (Entails.of_eq (rest_bar m c)) $$ Hpay
  unfold lend
  icases Hpay with ⟨⟨HvX, #HrX1⟩, ⟨HvY, #HrY3⟩⟩
  -- the sends along x
  rw [wp_bind]
  iapply (run_chunks c (sendX c) (sendPre m c) (fun k => token c 0 k) (fun ks => iprop(ctx m κ ∗ ∃ W, owes (c : Thread nD τ) (owedX c ks) W))
    (fun k ks K => run_sendX m κ c k ks K) _)
  isplitl [Hs HvX Ht0 Ht1]
  · iapply (sendPre_all m c)
    isplitl [Hs]; · iexact Hs
    isplitl [HvX]; · iexact HvX
    isplitl [Ht0]
    · isplitl [Ht0]; · iexact Ht0
      iexact Hr0
    isplitl [Ht1]; · iexact Ht1
    iexact HrX1
  isplitl [HO]
  · isplitr; · iexact Hctx
    iexists _; iexact HO
  iintro ⟨Hc0, -, HO⟩
  -- the sum
  iapply (wp_load 𝒱₀ (c : Thread nD τ) none Set.univ (m := xM) (Finset.subset_univ _)) $$ Hx
  iintro Hx
  iapply (wp_load 𝒱₀ (c : Thread nD τ) none Set.univ (m := resM) (Finset.subset_univ _)) $$ Hres
  iintro Hres
  iapply (wp_load 𝒱₀ (c : Thread nD τ) none Set.univ (m := pM) (Finset.subset_univ _)) $$ Hp
  iintro Hp
  iapply (wp_store 𝒱₀ (c : Thread nD τ) none Set.univ (m := pM) (r := full512) (f := fp) (S := Finset.univ) (Finset.subset_univ _)) $$ Hp
  iintro Hp
  ihave Hp := (show (iprop(((pM : Memref sig .tc .vmem S512x512 .f32).access full512).loc (c : Thread nD τ) ↦{fullShare}
      ((pM : Memref sig .tc .vmem S512x512 .f32).access full512).write (Elt F) fp
        (k0_pay2 ((xM : Memref sig .tc .vmem S512x512 .f32).view.readAt (Elt F) full512.toLoadRect (xIn m c))
          ((resM : Memref sig .tc .vmem S512x512 .f32).view.readAt (Elt F) full512.toLoadRect (rIn m c))) Finset.univ) : sProp 𝕄)
      ⊢ pPts m c from Entails.of_eq (by rw [store_p, load_x, load_r]; rfl)) $$ Hp
  -- the hop along x
  rw [wp_bind]
  iapply (run_chunks c (stepX c) (stepXPre c) (stepXPost m c) (fun ks => hop m κ c (doneX c ks) (owedY c ks))
    (fun k ks K => run_stepX m κ c k ks K) _)
  isplitl [Hat1 Hc1 HvY Ht2 Ht3]
  · iapply (stepXPre_all c)
    isplitl [Hat1]; · iexact Hat1
    isplitl [Hc1]; · iexact Hc1
    isplitl [HvY]; · iexact HvY
    isplitl [Ht2]
    · isplitl [Ht2]; · iexact Ht2
      iexact Hr2
    isplitl [Ht3]; · iexact Ht3
    iexact HrY3
  isplitl [HO Hp Hg Ho]
  · unfold hop
    isplitr; · iexact Hctx
    isplitl [Hp]; · iexact Hp
    isplitl [Hg]; · iexact Hg
    isplitl [Ho]
    · iexists fo
      isplitr
      · ipureintro; exact fun q ⟨k, hk, _⟩ => absurd (mem_chunks k) hk
      iexact Ho
    iexact HO
  iintro ⟨HX, Hhop⟩
  ihave HX := (stepXPost_all m c) $$ HX
  icases HX with ⟨Hat1, Hc2, Hvl⟩
  unfold hop
  icases Hhop with ⟨-, Hp, Hg, ⟨%fx, %hfx, Ho⟩, HO⟩
  -- the hop along y
  rw [wp_bind]
  iapply (run_chunks c (stepY c) (stepYPre c) (stepYPost m c) (fun ks => hop m κ c (doneY c ks) 0)
    (fun k ks K => run_stepY m κ c k ks K) _)
  isplitl [Hat3 Hc3]
  · iapply (stepYPre_all c)
    isplitl [Hat3]; · iexact Hat3
    iexact Hc3
  isplitl [HO Hp Hg Ho]
  · unfold hop
    isplitr; · iexact Hctx
    isplitl [Hp]; · iexact Hp
    isplitl [Hg]; · iexact Hg
    isplitl [Ho]
    · iexists fx
      isplitr
      · ipureintro
        exact fun q hq => hfx q (hq.elim (fun ⟨k, e⟩ => ⟨k, List.not_mem_nil, e⟩) fun ⟨k, hk, _⟩ => absurd (mem_chunks k) hk)
      iexact Ho
    iexact HO
  iintro ⟨HY, Hhop⟩
  ihave HY := (stepYPost_all m c) $$ HY
  icases HY with ⟨Hat3, Hv1⟩
  unfold hop
  icases Hhop with ⟨-, Hp, Hg, ⟨%fy, %hfy, Ho⟩, HO⟩
  have hout : fy = outAt m c := done_all m hfy fun q => (own_or_oth c q).imp id fun ⟨k, e⟩ => ⟨k, List.not_mem_nil, e⟩
  subst hout
  -- the last waits
  iapply (run_chunks c (fun k => drain k) (drainPre c) (drainPost m c) (fun _ => iprop(ctx m κ ∗ ∃ W, owes (c : Thread nD τ) (0 : CellTallies nD τ sig Unit) W))
    (fun k _ K => run_drain m κ c k K) _)
  isplitl [Hat0 Hc0 Hat2 Hc2]
  · iapply (drainPre_all c)
    isplitl [Hat0]; · iexact Hat0
    isplitl [Hc0]; · unfold creds; iexact Hc0
    isplitl [Hat2]; · iexact Hat2
    iexact Hc2
  isplitl [HO]
  · isplitr; · iexact Hctx
    iexact HO
  iintro ⟨HD, -, HO⟩
  ihave HD := (drainPost_all m c) $$ HD
  icases HD with ⟨Hat0, Hat2, Hs, Hvr⟩
  iapply HK
  isplitl [HatB Hat0 Hat1 Hat2 Hat3]
  · isplitl [HatB]; · iexact HatB
    isplitl [Hat0]; · iexact Hat0
    isplitl [Hat1]; · iexact Hat1
    isplitl [Hat2]; · iexact Hat2
    iexact Hat3
  isplitl [Hs Hvl Hvr Hv1 Hp]
  · isplitl [Hs]; · iapply (s_join m c); iexact Hs
    isplitl [Hvl Hvr Hv1]
    · iapply (v_join c fv)
      isplitl [Hvl Hvr]
      · iapply (free_of_halves c (fun k => chunkV m (xDev c) k))
        isplitl [Hvl]; · iexact Hvl
        iexact Hvr
      iapply (free_of_owns c (fun k => chunkV m (xDev (yDev c)) k)); iexact Hv1
    iexists _; iexact Hp
  isplitl [Hx Hres Hg Ho]
  · isplitl [Hx]; · iexact Hx
    isplitl [Hres]; · iexact Hres
    isplitl [Hg]; · iexact Hg
    iexact Ho
  iexact HO

end Cert.AllReduceNorm

end

end
-- ==== Proof.Region.lean ====
/-
  The kernel call as a region of the program: its proof data, what the kernel body must show of it, and the opening and
  closing of the DMA cells around it.
-/
module

public import proofs.«01_k».proof.Proof.Body
public import Idealize.ShloMosaic.Lib.Pipeline.RegionTalk
public import Idealize.ShloMosaic.Lib.Pipeline.FrameTail
public import Idealize.ShloMosaic.Lib.Pipeline.RegionArraysS
public import Idealize.ShloMosaic.Lib.Pipeline.ValueKit.Geometry

@[expose] public section

noncomputable section

namespace Cert.AllReduceNorm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What a device brings to the call and takes from it -/

/-- The kernel's own semaphores. -/
abbrev osem (jk : Fin 4 × Fin 8) : SemLoc sig := csem (some jk)
/-- Those are the semaphores that the call itself owns. -/
theorem osem_facts : Pipeline.OwnSemFacts spec0 osem := by decide +kernel

/-- Device `c`'s place at its barrier cell, and its two signals to send. -/
def atBarrier (c : Dev nD) : sProp 𝕄 :=
  iprop(atPos (ER (F := F)) (cell c none) 0 ∅ 0 ∗ cred (tallyAt (cell c none) () 2)
    ∗ (dutyTok (ER (F := F)) (cell (xDev c) none) 0 false ∗ reached (ER (F := F)) (cell (xDev c) none) 0)
    ∗ (dutyTok (ER (F := F)) (cell (yDev c) none) 0 true ∗ reached (ER (F := F)) (cell (yDev c) none) 0))
/-- The copies it will make and the arrivals it may wait for. -/
def copies (c : Dev nD) : sProp 𝕄 :=
  iprop((toks c 0 ∗ toks (xDev c) 1 ∗ toks c 2 ∗ toks (yDev c) 3) ∗ creds c 1 ∗ creds c 3)
/-- Its DMA cells, before the call: the rights to open them. -/
def sealedCells (c : Dev nD) : sProp 𝕄 := bigSep Finset.univ fun jk : Fin 4 × Fin 8 => openTok (ER (F := F)) (cell c (some jk))
/-- Its DMA cells, opened: a place at each, and that each is ready. -/
def openedCells (c : Dev nD) : sProp 𝕄 :=
  iprop((ats c 0 0 ∗ ats c 0 1 ∗ ats c 0 2 ∗ ats c 0 3) ∗ (ready c 0 ∗ ready c 1 ∗ ready c 2 ∗ ready c 3))

/-- What a device holds before the call, the DMA cells set aside, -/
def Tk (c : Dev nD) : sProp 𝕄 := iprop(∃ κ, ctx m κ ∗ atBarrier c ∗ sealedCells c ∗ copies c)
/-- what it holds inside it, the DMA cells open, -/
def Xk (c : Dev nD) : sProp 𝕄 := iprop(∃ κ, ctx m κ ∗ atBarrier c ∗ openedCells c ∗ copies c)
/-- and what it holds at the end. -/
def Yk (c : Dev nD) : sProp 𝕄 := semVal (cell c none) 0

/-- A family over the DMA cells, array by array. -/
theorem by_array (Φ : Fin 4 × Fin 8 → sProp 𝕄) : bigSep Finset.univ Φ
    = iprop((bigSep Finset.univ fun k => Φ (0, k)) ∗ (bigSep Finset.univ fun k => Φ (1, k)) ∗ (bigSep Finset.univ fun k => Φ (2, k)) ∗ (bigSep Finset.univ fun k => Φ (3, k))) := by
  rw [bigSep_univ_prod]; exact bigSep_W0 _

/-- A change of every DMA cell of a device, from a change of one. -/
theorem ctx_cells (κ : GSem nD τ sig → ℕ) (c : Dev nD) (Φ Ψ : Fin 4 × Fin 8 → sProp 𝕄)
    (h : ∀ jk, iprop(cellInv (ER (F := F)) (sched m) (κ (cell c (some jk))) (cell c (some jk)) ∗ Φ jk) ⊢ iprop(|={Set.univ}=> Ψ jk)) :
    iprop(ctx m κ ∗ bigSep Finset.univ Φ) ⊢ iprop(|={Set.univ}=> bigSep Finset.univ Ψ) :=
  BIBase.Entails.trans (bigSep_with_persistent (R := ctx m κ) (Φ := Φ) (Ψ := fun jk => iprop(|={Set.univ}=> Ψ jk)) fun jk _ => by
    iintro ⟨Hc, HΦ⟩
    iapply (h jk)
    isplitl [Hc]; · iapply (inv_at m κ c (some jk)) $$ Hc
    iexact HΦ) (bigSep_fupd _ _)

/-- The call opens the DMA cells from their counters at zero. -/
theorem open_cells (κ : GSem nD τ sig → ℕ) (c : Dev nD) :
    iprop(ctx m κ ∗ sealedCells c ∗ Pipeline.ownSems0 osem c) ⊢ (|={Set.univ}=> openedCells c : sProp 𝕄) := by
  have h1 : iprop(sealedCells c ∗ Pipeline.ownSems0 osem c)
      ⊢ (bigSep Finset.univ fun jk : Fin 4 × Fin 8 => iprop(openTok (ER (F := F)) (cell c (some jk)) ∗ semVal (cell c (some jk)) 0) : sProp 𝕄) :=
    Entails.of_eq (bigSep_sep' _ _ _).symm
  have h2 := ctx_cells m κ c (fun jk => iprop(openTok (ER (F := F)) (cell c (some jk)) ∗ semVal (cell c (some jk)) 0))
    (fun jk => iprop(atPos (ER (F := F)) (cell c (some jk)) 0 ∅ 0 ∗ reached (ER (F := F)) (cell c (some jk)) 0))
    fun jk => Rounds.cell_open ER (sched m) (g := cell c (some jk)) (Set.mem_univ _)
  have h3 : (bigSep Finset.univ fun jk : Fin 4 × Fin 8 => iprop(atPos (ER (F := F)) (cell c (some jk)) 0 ∅ 0 ∗ reached (ER (F := F)) (cell c (some jk)) 0))
      ⊢ (openedCells c : sProp 𝕄) := by
    rw [bigSep_sep', by_array, by_array]
    exact Entails.refl _
  iintro ⟨Hc, H⟩
  ihave H' := h1 $$ H
  imod h2 $$ [Hc H'] with H2
  · isplitl [Hc] <;> iassumption
  imodintro
  iapply h3 $$ H2

/-- The body's end closes every cell, each past its one round: all counters are back at zero. -/
theorem close_cells (κ : GSem nD τ sig → ℕ) (c : Dev nD) :
    iprop(ctx m κ ∗ atPos (ER (F := F)) (cell c none) 1 ∅ 0 ∗ ats c 1 0 ∗ ats c 1 1 ∗ ats c 1 2 ∗ ats c 1 3)
      ⊢ (|={Set.univ}=> iprop(Yk c ∗ Pipeline.ownSems0 osem c) : sProp 𝕄) := by
  have h1 : iprop(ats c 1 0 ∗ ats c 1 1 ∗ ats c 1 2 ∗ ats c 1 3)
      ⊢ (bigSep Finset.univ fun jk : Fin 4 × Fin 8 => atPos (ER (F := F)) (cell c (some jk)) 1 ∅ 0 : sProp 𝕄) := by
    rw [by_array]; exact Entails.refl _
  have h2 := ctx_cells m κ c (fun jk => atPos (ER (F := F)) (cell c (some jk)) 1 ∅ 0) (fun jk => semVal (cell c (some jk)) 0)
    fun jk => Rounds.cell_close ER (sched m) (g := cell c (some jk)) (Set.mem_univ _) id (duties_later m _)
  iintro ⟨#Hc, HB, H⟩
  imod (Rounds.cell_close ER (sched m) (g := cell c none) (κ := κ (cell c none)) (Set.mem_univ _) id (duties_later m _)) $$ [HB] with HB'
  · isplitr; · iapply (inv_at m κ c none); iexact Hc
    iexact HB
  ihave H' := h1 $$ H
  imod h2 $$ [H'] with H2
  · isplitr; · iexact Hc
    iexact H'
  imodintro
  unfold Yk Pipeline.ownSems0
  isplitl [HB']; · iexact HB'
  iexact H2

/-! ## The proof data -/

/-- The scratch buffers at some contents. -/
abbrev scratch (c : Dev nD) : sProp 𝕄 := Pipeline.scopedRest (Ix := Unit) (Name := ℕ) (U := UU) (Lvl := ℕ) (Val := Elt F) spec0 c

/-- The call: the operands stay, the result becomes `outAt`; the device owes its hops and signals before, nothing after. -/
def dat (c : Dev nD) : Dat τ (Elt F) Unit ℕ UU ℕ cfg0 c where
  A w := V m c (Pipeline.arrRef spec0 w)
  after w t := match w with
    | 0 => iblk m c 0 t
    | 1 => iblk m c 1 t
    | 2 => iblk m c 2 t
    | 3 => outAt m c
    | ⟨_ + 4, h⟩ => absurd h (Nat.not_lt.2 (Nat.le_add_left _ _))
  Φ t := if t.val = 0 then iprop(Xk m c ∗ scratch c ∗ ∃ r, prngReg c r) else iprop((Yk c ∗ Pipeline.ownSems0 osem c) ∗ scratch c ∗ ∃ r, prngReg c r)
  q _ := fullShare
  owed t := if t.val = 0 then owed₀ c else 0

abbrev adm : (p : Fin 1) → (pcfgs (F := F) p).Adm := fun p => (cfgs p).toPCfg_adm
/-- The proof data, for the one call of the program. -/
def pdats : (p : Fin 1) → (c : Dev nD) → Dat τ (Elt F) Unit ℕ UU ℕ (Pipeline.pin (pcfgs (F := F)) adm p) c
  | 0 => dat m

/-- A device enters the call with all its debts, -/
theorem owed_first (c : Dev nD) : (dat m c).owed t0_0.castSucc = owed₀ c := rfl
/-- and leaves it with none. -/
theorem owed_last (c : Dev nD) : (dat m c).owed t0_0.succ = 0 := rfl

/-- What the core owes before a point, from its tallies and back. -/
theorem owes_in (c : Dev nD) (t : Fin (cfg0.N + 1)) (O : CellTallies nD τ sig Unit) (h : (dat m c).owed t = O) :
    (iprop(∃ W, owes (c : Thread nD τ) O W) : sProp 𝕄) ⊢ (dat m c).owesAt () t := by
  unfold Dat.owesAt Pipeline.owesWithin Dat.bound; rw [h]
  iintro ⟨%W, HO⟩; iexists W; isplitr; · ipureintro; exact fun _ _ => Or.inl trivial
  iexact HO
/-- What is owed at a point, said of the debts at that point. -/
theorem owes_out (c : Dev nD) (t : Fin (cfg0.N + 1)) (O : CellTallies nD τ sig Unit) (h : (dat m c).owed t = O) :
    (dat m c).owesAt () t ⊢ (iprop(∃ W, owes (c : Thread nD τ) O W) : sProp 𝕄) := by
  unfold Dat.owesAt Pipeline.owesWithin; rw [h]
  iintro ⟨%W, -, HO⟩; iexists W; iexact HO

/-- The staged operands the body finds: each the operand itself. -/
theorem found_x (c : Dev nD) (d) : (dat m c).before 0 t0_0 d = iblk m c 0 t0_0 :=
  ((dat m c).before_in_eq_fetched 0 rfl (fun _ => rfl) (fun _ _ _ => rfl) (fun _ => rfl) t0_0 d).trans rfl
/-- The body finds the residual as it is fetched, -/
theorem found_r (c : Dev nD) (d) : (dat m c).before 1 t0_0 d = iblk m c 1 t0_0 :=
  ((dat m c).before_in_eq_fetched 1 rfl (fun _ => rfl) (fun _ _ _ => rfl) (fun _ => rfl) t0_0 d).trans rfl
/-- and the scale. -/
theorem found_g (c : Dev nD) (d) : (dat m c).before 2 t0_0 d = iblk m c 2 t0_0 :=
  ((dat m c).before_in_eq_fetched 2 rfl (fun _ => rfl) (fun _ _ _ => rfl) (fun _ => rfl) t0_0 d).trans rfl

/-- What the body finds of the windows is the operands and some result block; -/
theorem windows_in (c : Dev nD) :
    iprop((∃ d, owns (c : Thread nD τ) ((cfg0.win 0).stage (cfg0.slots t0_0 0)) fullShare ((dat m c).before 0 t0_0 d))
      ∗ (∃ d, owns (c : Thread nD τ) ((cfg0.win 1).stage (cfg0.slots t0_0 1)) fullShare ((dat m c).before 1 t0_0 d))
      ∗ (∃ d, owns (c : Thread nD τ) ((cfg0.win 2).stage (cfg0.slots t0_0 2)) fullShare ((dat m c).before 2 t0_0 d))
      ∗ (∃ d, owns (c : Thread nD τ) ((cfg0.win 3).stage (cfg0.slots t0_0 3)) fullShare ((dat m c).before 3 t0_0 d)))
      ⊢ (iprop(xPts m c ∗ rPts m c ∗ gPts m c ∗ ∃ f, oPts c f) : sProp 𝕄) := by
  refine BIClass.sep_mono ?_ (BIClass.sep_mono ?_ (BIClass.sep_mono ?_ ?_))
  · iintro ⟨%d, H⟩; rw [found_x]
    iapply (Entails.of_eq (owns_whole (c : Thread nD τ) cc0_stg0_0 fullShare (xIn m c))); iexact H
  · iintro ⟨%d, H⟩; rw [found_r]
    iapply (Entails.of_eq (owns_whole (c : Thread nD τ) cc0_stg1_0 fullShare (rIn m c))); iexact H
  · iintro ⟨%d, H⟩; rw [found_g]
    iapply (Entails.of_eq (owns_whole (c : Thread nD τ) cc0_stg2_0 fullShare (gIn m c))); iexact H
  · iintro ⟨%d, H⟩; iexists _
    iapply (Entails.of_eq (owns_whole (c : Thread nD τ) cc0_stg3_0 fullShare _)); iexact H
/-- and the operands with `outAt` is what it must leave of them. -/
theorem windows_out (c : Dev nD) :
    (iprop(xPts m c ∗ rPts m c ∗ gPts m c ∗ oPts c (outAt m c)) : sProp 𝕄)
      ⊢ iprop(owns (c : Thread nD τ) ((cfg0.win 0).stage (cfg0.slots t0_0 0)) fullShare ((dat m c).after 0 t0_0)
      ∗ owns (c : Thread nD τ) ((cfg0.win 1).stage (cfg0.slots t0_0 1)) fullShare ((dat m c).after 1 t0_0)
      ∗ owns (c : Thread nD τ) ((cfg0.win 2).stage (cfg0.slots t0_0 2)) fullShare ((dat m c).after 2 t0_0)
      ∗ owns (c : Thread nD τ) ((cfg0.win 3).stage (cfg0.slots t0_0 3)) fullShare ((dat m c).after 3 t0_0)) := by
  iintro ⟨Hx, Hr, Hg, Ho⟩
  isplitl [Hx]; · iapply (Entails.of_eq (owns_whole (c : Thread nD τ) cc0_stg0_0 fullShare (xIn m c)).symm) $$ Hx
  isplitl [Hr]; · iapply (Entails.of_eq (owns_whole (c : Thread nD τ) cc0_stg1_0 fullShare (rIn m c)).symm) $$ Hr
  isplitl [Hg]; · iapply (Entails.of_eq (owns_whole (c : Thread nD τ) cc0_stg2_0 fullShare (gIn m c)).symm) $$ Hg
  iapply (Entails.of_eq (owns_whole (c : Thread nD τ) cc0_stg3_0 fullShare (outAt m c)).symm) $$ Ho

/-- The kernel body from the opened cells to all counters at zero. -/
theorem run_body (c : Dev nD) (Q : sProp 𝕄)
    (hQ : iprop(((Yk c ∗ Pipeline.ownSems0 osem c) ∗ scratch c ∗ ∃ r, prngReg c r)
        ∗ (∃ W, owes (c : Thread nD τ) (0 : CellTallies nD τ sig Unit) W) ∗ (xPts m c ∗ rPts m c ∗ gPts m c ∗ oPts c (outAt m c))) ⊢ Q) :
    iprop((Xk m c ∗ scratch c ∗ ∃ r, prngReg c r) ∗ (∃ W, owes (c : Thread nD τ) (owed₀ c) W) ∗ (xPts m c ∗ rPts m c ∗ gPts m c ∗ ∃ f, oPts c f))
      ⊢ run c (prog c) fun _ => Q := by
  refine BIBase.Entails.trans ?_ (wp_fupd _ _ _ _ _)
  unfold scratch at hQ ⊢
  unfold Xk atBarrier openedCells copies
  rw [scopedRest0_eq] at hQ ⊢
  iintro ⟨⟨⟨%κ, #Hctx, Hbar, ⟨Hats, Hready⟩, ⟨Htoks, Hcr⟩⟩, Hs, Hreg⟩, HO, Hw⟩
  iapply (run_prog m κ c _)
  isplitr; · iexact Hctx
  isplitl [Hbar Hats Hready Htoks Hcr Hs HO Hw]
  · unfold bodyPre
    isplitl [Hbar]; · iexact Hbar
    isplitl [Hats Hready Htoks Hcr]
    · isplitl [Hats]; · iexact Hats
      isplitl [Hready]; · iexact Hready
      isplitl [Htoks]; · iexact Htoks
      iexact Hcr
    isplitl [Hs]; · iexact Hs
    isplitl [Hw]; · iexact Hw
    iexact HO
  unfold bodyPost
  iintro ⟨Hats, Hs, Hw, HO⟩
  imod (close_cells m κ c) $$ [Hats] with HY
  · isplitr; · iexact Hctx
    iexact Hats
  imodintro
  iapply hQ
  isplitl [HY Hs Hreg]
  · isplitl [HY]; · iexact HY
    isplitl [Hs] <;> iassumption
  isplitl [HO]; · iexact HO
  iexact Hw

/-- The kernel body meets its obligation at the call's one point. -/
theorem body (c : Dev nD) : BodyObligation (dat m c) defs₀ 𝒱₀ () Set.univ := fun t => by
  obtain rfl := fin_N0 t
  rw [bigSep_W0, bigSep_W0,
    show (defs₀ (F := F) .tc cfg0.body (cfg0.bodyArgs t0_0 (cfg0.slots t0_0))) = .op .deviceId fun d => prog d from body_eq, wp_deviceId]
  have hin : iprop((dat m c).Φ t0_0.castSucc ∗ (dat m c).owesAt () t0_0.castSucc
      ∗ (∃ d, owns (c : Thread nD τ) ((cfg0.win 0).stage (cfg0.slots t0_0 0)) fullShare ((dat m c).before 0 t0_0 d))
      ∗ (∃ d, owns (c : Thread nD τ) ((cfg0.win 1).stage (cfg0.slots t0_0 1)) fullShare ((dat m c).before 1 t0_0 d))
      ∗ (∃ d, owns (c : Thread nD τ) ((cfg0.win 2).stage (cfg0.slots t0_0 2)) fullShare ((dat m c).before 2 t0_0 d))
      ∗ (∃ d, owns (c : Thread nD τ) ((cfg0.win 3).stage (cfg0.slots t0_0 3)) fullShare ((dat m c).before 3 t0_0 d)))
      ⊢ iprop((Xk m c ∗ scratch c ∗ ∃ r, prngReg c r) ∗ (∃ W, owes (c : Thread nD τ) (owed₀ c) W) ∗ (xPts m c ∗ rPts m c ∗ gPts m c ∗ ∃ f, oPts c f)) :=
    BIClass.sep_mono (Entails.refl _) (BIClass.sep_mono (owes_out m c _ _ (owed_first m c)) (windows_in m c))
  have hout := BIClass.sep_mono (Entails.refl (iprop((Yk c ∗ Pipeline.ownSems0 osem c) ∗ scratch c ∗ ∃ r, prngReg c r) : sProp 𝕄))
    (BIClass.sep_mono (owes_in m c _ _ (owed_last m c)) (windows_out m c))
  refine BIBase.Entails.trans hin ?_
  have h := run_body m c _ hout
  unfold run at h
  refine BIBase.Entails.trans h ?_
  refine Entails.of_eq ?_
  congr 1

/-! ## The call as a segment of the program -/

local notation "ℝ𝕊" => Pipeline.RegionSeg (pcfgs (F := F)) adm (pdats m) () defs₀ 𝒱₀ L lv

/-- The unscoped buffers; those the call's windows do not stage; their contents before and after the call. -/
abbrev ucs : Finset (DevRef τ sig) := Pipeline.ucRefs τ sig
abbrev rest : Finset (DevRef τ sig) := ucs \ Pipeline.arrRefs (τ := τ) spec0
/-- The buffers when the call starts, -/
def V₁ (c : Dev nD) : Valuation τ sig (Elt F) := StableHlo.after hostOps0 fun b => m (c, b)
/-- and when it ends. -/
def V₂ (c : Dev nD) : Valuation τ sig (Elt F) := Pipeline.afterRegion (dat m c) (V₁ m c)

/-- The windows of the call are over different arrays. -/
theorem arrRef_inj : Function.Injective (Pipeline.arrRef spec0) := by decide
/-- The arrays of the windows when the call starts, -/
theorem V₁_arr (c : Dev nD) (w : Fin 4) : (dat m c).arrAt w 0 = V₁ m c (Proc.devRef .tc (Pipeline.arrRef spec0 w)) := rfl
/-- and when it ends. -/
theorem V₂_arr (c : Dev nD) (w : Fin 4) : (dat m c).arrAt w cfg0.N = V₂ m c (Proc.devRef .tc (Pipeline.arrRef spec0 w)) :=
  (Pipeline.afterRegion_arr (dat m c) (V₁ m c) arrRef_inj w).symm

/-- What the device owes stays above the staging waits throughout. -/
theorem owed_above (c : Dev nD) (t : Fin (cfg0.N + 1)) (g : GSem nD τ sig) (u : Unit) (h : 0 < (dat m c).owed t g u) :
    u ∈ L g ∧ (0 : ℕ) < lv g u := by
  have e : (dat m c).owed t = if t.val = 0 then owed₀ c else 0 := rfl
  rw [e] at h
  split at h
  · obtain ⟨h1, h2⟩ := above_owed₀ c g u h
    obtain ⟨⟨d, p⟩, s⟩ := g
    obtain rfl : p = .tc := h1
    exact ⟨by rw [L_tc]; exact Finset.mem_singleton_self _, h2⟩
  · exact absurd h (Nat.lt_irrefl 0)

/-- Entering the call opens the DMA cells. -/
theorem enter (c : Dev nD) : iprop(Tk m c ∗ Pipeline.ownSems0 osem c ∗ levAts L lv) ⊢ (|={Set.univ}=> Xk m c : sProp 𝕄) := by
  unfold Tk Xk
  iintro ⟨⟨%κ, #Hctx, Hbar, Hseal, Hcp⟩, Hos, -⟩
  imod (open_cells m κ c) $$ [Hseal Hos] with Hop
  · isplitr; · iexact Hctx
    isplitl [Hseal] <;> iassumption
  imodintro
  iexists κ
  isplitr; · iexact Hctx
  isplitl [Hbar]; · iexact Hbar
  isplitl [Hop] <;> iassumption

/-- Holding no buffer is holding nothing. -/
theorem held_none (c : Dev nD) (W : Valuation τ sig (Elt F)) : (StableHlo.held (c.tc : Thread nD τ) ∅ W : sProp 𝕄) = BI.emp := by
  unfold StableHlo.held; exact BI.bigSep_empty

set_option backward.isDefEq.respectTransparency.types false in
def reg : ℝ𝕊 0 :=
  Pipeline.RegionSeg.ofTalk (pcfgs (F := F)) adm (pdats m) () defs₀ 𝒱₀ L lv 0 osem osem_facts
    ∅ rest (Finset.empty_subset _) launch0.toP rfl (fun c => (body m c).loose)
    (fun _ => 0) owed₀ (fun c => (owed_first m c).trans (zero_add _).symm) (owed_last m) (fun _ => rfl)
    (fun c w => by fin_cases w <;> rfl)
    (V₁ m) (V₂ m)
    (fun c b hb => Pipeline.afterRegion_off (dat m c) (V₁ m c) ucs b (by rwa [Finset.sdiff_empty] at hb))
    (Tk m) Yk (Xk m) Yk (enter m)
    (fun c => by
      rw [show (pdats m 0 c).Φ 0 = iprop(Xk m c ∗ scratch c ∗ ∃ r, prngReg c r) from rfl]
      iintro ⟨Hs, Hp, -, HX⟩
      isplitl [HX]; · iexact HX
      isplitl [Hs]; · iexact Hs
      iexact Hp)
    (fun c => by
      rw [show (pdats m 0 c).Φ (Fin.last _) = iprop((Yk c ∗ Pipeline.ownSems0 osem c) ∗ scratch c ∗ ∃ r, prngReg c r) from rfl, held_none]
      iintro ⟨⟨HY, Hos⟩, Hs, Hp⟩
      isplitl [Hs]; · iexact Hs
      isplitl [Hp]; · iexact Hp
      isplitr; · iempintro
      isplitl [Hos] <;> iassumption)
    (fun c => by iintro H; imodintro; iexact H)
    (fun _ => 0)
    ⟨fun c w s => by rw [L_tc]; exact Finset.mem_singleton_self _, fun c w s => by fin_cases w <;> fin_cases s <;> exact Nat.le_of_eq rfl, fun c t g i h => owed_above m c t g i h⟩
    (fun _ => iprop(emp)) (V₁_arr m) (V₂_arr m)

end Cert.AllReduceNorm

end

end
-- ==== Proof.Launch.lean ====
/-
  The launch: every cell funded, every token and credit dealt to the device that uses it, and the run of the whole program.
-/
module

public import proofs.«01_k».proof.Proof.Region

@[expose] public section

noncomputable section

namespace Cert.AllReduceNorm

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The credits: what all devices together owe a cell -/

/-- One debt, read at a cell. -/
theorem tally_cell (d c : Dev nD) (i j : Cell) (n : ℕ) :
    (tallyAt (cell d i) () n : CellTallies nD τ sig Unit) (cell c j) () = if d = c ∧ j = i then n else 0 := by
  rw [tallyAt_apply]
  refine if_congr ⟨fun ⟨h, _⟩ => ⟨?_, csem_inj _ _ (congrArg Prod.snd h)⟩, fun ⟨h1, h2⟩ => ⟨by rw [h1, h2], rfl⟩⟩ rfl rfl
  exact (congrArg (fun g : GSem nD τ sig => g.1.1) h).symm

/-- How often a cell of array `a` occurs among the chunks of a list, times the credit of a chunk. -/
def hopDue (a : Fin 4) (ks : List (Fin 8)) (j : Cell) : ℕ := N * ks.countP fun k => j = some (a, k)

/-- The debts of a hop, read at a cell, chunk by chunk. -/
theorem hopDue_cons (a : Fin 4) (k : Fin 8) (ks : List (Fin 8)) (j : Cell) :
    hopDue a (k :: ks) j = hopDue a ks j + if j = some (a, k) then N else 0 := by
  unfold hopDue; rw [List.countP_cons, Nat.mul_add]
  by_cases h : j = some (a, k) <;> simp [h]

/-- What a device owes for the hop along y, read at a cell. -/
theorem owedY_at (d c : Dev nD) (j : Cell) : ∀ ks, owedY d ks (cell c j) () = if yDev d = c then hopDue 3 ks j else 0
  | [] => by simp [owedY, hopDue]
  | k :: ks => by
    rw [owedY, Pi.add_apply, Finsupp.add_apply, owedY_at d c j ks, tally_cell, hopDue_cons]
    by_cases h : yDev d = c <;> simp [h]
/-- What a device owes for the hop along x, read at a cell. -/
theorem owedX_at (d c : Dev nD) (j : Cell) : ∀ ks, owedX d ks (cell c j) ()
      = (if yDev d = c then hopDue 3 chunks j else 0) + if xDev d = c then hopDue 1 ks j else 0
  | [] => by rw [owedX, owedY_at]; simp [hopDue]
  | k :: ks => by
    rw [owedX, Pi.add_apply, Finsupp.add_apply, owedX_at d c j ks, tally_cell, hopDue_cons 1 k ks]
    by_cases h : xDev d = c <;> simp [h, Nat.add_assoc]

/-- What the devices owe cell `j` of any device. -/
def due (j : Cell) : ℕ := hopDue 3 chunks j + hopDue 1 chunks j + (if j = none then 1 else 0) + if j = none then 1 else 0

/-- All that a device owes at the start, read at a cell. -/
theorem owed₀_at (d c : Dev nD) (j : Cell) : owed₀ d (cell c j) ()
      = (if d = yDev c then hopDue 3 chunks j + (if j = none then 1 else 0) else 0)
        + if d = xDev c then hopDue 1 chunks j + (if j = none then 1 else 0) else 0 := by
  have hx : (d = xDev c) = (xDev d = c) := propext ⟨fun h => by rw [h, xDev_xDev], fun h => by rw [← h, xDev_xDev]⟩
  have hy : (d = yDev c) = (yDev d = c) := propext ⟨fun h => by rw [h, yDev_yDev], fun h => by rw [← h, yDev_yDev]⟩
  unfold owed₀
  rw [Pi.add_apply, Finsupp.add_apply, Pi.add_apply, Finsupp.add_apply, owedX_at, tally_cell, tally_cell]
  simp only [hx, hy]
  by_cases h1 : yDev d = c <;> by_cases h2 : xDev d = c <;> by_cases h3 : j = none <;> simp [h1, h2, h3] <;> omega

/-- The credit that the launch makes for a cell: what all devices together owe it. -/
theorem launch_cell (c : Dev nD) (j : Cell) :
    tallyOn (cell c j) (launchCredit (Pipeline.owing owed₀) 0 (cell c j)) = (tallyAt (cell c j) () (due j) : CellTallies nD τ sig Unit) := by
  unfold tallyAt; refine congrArg _ (Finsupp.ext fun u => ?_); cases u
  rw [Pipeline.launchCredit_owing, Finsupp.single_eq_same, Finset.sum_congr rfl fun d _ => owed₀_at d c j, Finset.sum_add_distrib,
    Finset.sum_ite_eq' Finset.univ (yDev c) fun _ => _, Finset.sum_ite_eq' Finset.univ (xDev c) fun _ => _,
    if_pos (Finset.mem_univ _), if_pos (Finset.mem_univ _)]
  unfold due; omega

/-- The barrier cell is due two signals, -/
theorem due_bar : due none = 2 := by
  have h1 : chunks.countP (fun k => (none : Cell) = some (3, k)) = 0 := by decide
  have h2 : chunks.countP (fun k => (none : Cell) = some (1, k)) = 0 := by decide
  unfold due hopDue; rw [h1, h2]; rfl
/-- the receive cell of a hop along x one chunk, -/
theorem due_x (k : Fin 8) : due (some (1, k)) = N := by
  have h1 : chunks.countP (fun k' => (some (1, k) : Cell) = some (3, k')) = 0 := by revert k; decide
  have h2 : chunks.countP (fun k' => (some (1, k) : Cell) = some (1, k')) = 1 := by revert k; decide
  unfold due hopDue; rw [h1, h2]; simp
/-- and so is that of a hop along y. -/
theorem due_y (k : Fin 8) : due (some (3, k)) = N := by
  have h1 : chunks.countP (fun k' => (some (3, k) : Cell) = some (3, k')) = 1 := by revert k; decide
  have h2 : chunks.countP (fun k' => (some (3, k) : Cell) = some (1, k')) = 0 := by revert k; decide
  unfold due hopDue; rw [h1, h2]; simp

/-- The launch credit of a device's cells: two barrier signals, and every arrival of either hop. -/
theorem credits (c : Dev nD) :
    (Pipeline.launchCred owed₀ c : sProp 𝕄) ⊢ iprop(cred (tallyAt (cell c none) () 2) ∗ creds c 1 ∗ creds c 3) := by
  have hmap : (Pipeline.launchCred owed₀ c : sProp 𝕄)
      ⊢ bigSep (Finset.univ.map ⟨csem, csem_inj⟩) fun sm : SemLoc sig => cred (tallyOn ((c : Thread nD τ), sm) (launchCredit (Pipeline.owing owed₀) 0 ((c : Thread nD τ), sm))) := by
    unfold Pipeline.launchCred; exact bigSep_subset (Finset.subset_univ _)
  refine BIBase.Entails.trans hmap ?_
  rw [bigSep_map, bigSep_univ_at _ (none : Cell)]
  have hsome : bigSep (Finset.univ.erase (none : Cell)) (fun i : Cell => (cred (tallyOn (cell c i) (launchCredit (Pipeline.owing owed₀) 0 (cell c i))) : sProp 𝕄))
      ⊢ bigSep Finset.univ fun jk : Fin 4 × Fin 8 => (cred (tallyAt (cell c (some jk)) () (due (some jk))) : sProp 𝕄) := by
    rw [show (Finset.univ.erase (none : Cell)) = Finset.univ.map Function.Embedding.some from by decide, bigSep_map]
    exact bigSep_mono fun jk _ => Entails.of_eq (congrArg cred (launch_cell c (some jk)))
  refine BIClass.sep_mono (Entails.of_eq (congrArg cred ((launch_cell c none).trans (by rw [due_bar])))) (BIBase.Entails.trans hsome ?_)
  rw [by_array]
  unfold creds token
  simp only [due_x, due_y]
  iintro ⟨-, H1, -, H3⟩
  isplitl [H1] <;> iassumption

/-- Three resources, bracketed the other way. -/
theorem regroup (P Q R : sProp 𝕄) : iprop((P ∗ Q) ∗ R) = iprop(P ∗ Q ∗ R) := BI.equiv_iff.mp ⟨BI.sep_assoc, BI.sep_assoc'⟩

/-! ## The tokens: each to the device that pays with it -/

abbrev Duty : Type := Bool ⊕ (Fin 4 × Fin 8)
abbrev duty (c : Dev nD) : Duty → GSem nD τ sig × ℕ × Bool
  | .inl b => (cell c none, 0, b)
  | .inr jk => (cell c (some jk), 0, false)
/-- Different duties are different. -/
theorem duty_inj : Function.Injective fun p : Dev nD × Duty => duty p.1 p.2 := by
  rintro ⟨c, s⟩ ⟨c', s'⟩ h
  rcases s with b | jk <;> rcases s' with b' | jk' <;> simp only [duty] at h
  · have h1 := congrArg (fun t : GSem nD τ sig × ℕ × Bool => t.1.1.1) h
    have h2 := congrArg (fun t : GSem nD τ sig × ℕ × Bool => t.2.2) h
    exact Prod.ext h1 (congrArg Sum.inl h2)
  · have h1 := csem_inj none (some jk') (congrArg (fun t : GSem nD τ sig × ℕ × Bool => t.1.2) h)
    cases h1
  · have h1 := csem_inj (some jk) none (congrArg (fun t : GSem nD τ sig × ℕ × Bool => t.1.2) h)
    cases h1
  · have h1 := congrArg (fun t : GSem nD τ sig × ℕ × Bool => t.1.1.1) h
    have h2 := Option.some.inj (csem_inj (some jk) (some jk') (congrArg (fun t : GSem nD τ sig × ℕ × Bool => t.1.2) h))
    exact Prod.ext h1 (congrArg Sum.inr h2)
/-- The tokens of all duties. -/
def tokens : Finset (GSem nD τ sig × ℕ × Bool) := Finset.univ.map ⟨fun p : Dev nD × Duty => duty p.1 p.2, duty_inj⟩

/-- The tokens device `c` pays with. -/
def pays (c : Dev nD) : sProp 𝕄 :=
  iprop(dutyTok (ER (F := F)) (cell (xDev c) none) 0 false ∗ dutyTok (ER (F := F)) (cell (yDev c) none) 0 true
    ∗ toks c 0 ∗ toks (xDev c) 1 ∗ toks c 2 ∗ toks (yDev c) 3)

/-- All tokens, dealt to the devices that pay with them. -/
theorem tokens_dealt : bigSep tokens (fun x => (dutyTok (ER (F := F)) x.1 x.2.1 x.2.2 : sProp 𝕄)) ⊢ bigSep Finset.univ fun c : Dev nD => (pays c : sProp 𝕄) := by
  have h (c : Dev nD) : (bigSep Finset.univ fun s : Duty => (dutyTok (ER (F := F)) (duty c s).1 (duty c s).2.1 (duty c s).2.2 : sProp 𝕄))
      = iprop(dutyTok (ER (F := F)) (cell c none) 0 false ∗ dutyTok (ER (F := F)) (cell c none) 0 true ∗ toks c 0 ∗ toks c 1 ∗ toks c 2 ∗ toks c 3) := by
    rw [bigSep_univ_sum, by_array, show (Finset.univ : Finset Bool) = {false, true} from by decide, BI.bigSep_insert (by decide), BI.bigSep_singleton]
    exact regroup _ _ _
  unfold tokens
  rw [bigSep_map, bigSep_univ_prod]
  refine BIBase.Entails.trans (Entails.of_eq (bigSep_congr fun c _ => h c)) ?_
  unfold pays
  simp only [bigSep_sep']
  rw [bigSep_univ_equiv xSwap (fun c : Dev nD => (dutyTok (ER (F := F)) (cell c none) 0 false : sProp 𝕄)),
    bigSep_univ_equiv ySwap (fun c : Dev nD => (dutyTok (ER (F := F)) (cell c none) 0 true : sProp 𝕄)),
    bigSep_univ_equiv xSwap (fun c : Dev nD => (toks c 1 : sProp 𝕄)), bigSep_univ_equiv ySwap (fun c : Dev nD => (toks c 3 : sProp 𝕄))]
  exact Entails.refl _

/-! ## Before the first operation -/

variable (ρ : Dev nD → PrngReg)

/-- The ghost state of the launch. -/
def u₀ : UU :=
  (initOf (Pipeline.cells (Pipeline.pin (pcfgs (F := F)) adm) (launch0.toP.cellOf_inj adm)) (Pipeline.launchToks (Pipeline.pin (pcfgs (F := F)) adm) (launch0.toP.cellOf_inj adm)),
    launchOf barCells dmaCells tokens)

/-- No barrier cell is a DMA cell. -/
theorem disjoint_cells : Disjoint (barCells : Finset (GSem nD τ sig)) dmaCells := by
  rw [Finset.disjoint_left]
  rintro g h₁ h₂
  obtain ⟨c, -, rfl⟩ := Finset.mem_map.mp h₁
  obtain ⟨p, -, h⟩ := Finset.mem_map.mp h₂
  cases csem_inj (some p.2) none (congrArg Prod.snd h)

/-- The protocol's launch element, kept whole at device 0 until every device's counters are at hand. -/
def fund (c : Dev nD) : sProp 𝕄 := if c = 0 then BI.own ((ER (F := F)) (launchOf barCells dmaCells tokens)) else iprop(emp)
/-- The funds of all devices are the ghost state of the launch. -/
theorem fund_whole : bigSep Finset.univ (fund (F := F)) = BI.own ((ER (F := F)) (launchOf barCells dmaCells tokens)) := by
  rw [bigSep_univ_at _ 0, bigSep_congr (s := Finset.univ.erase 0) (Ψ := fun _ => (BI.emp : sProp 𝕄))
    fun c hc => by unfold fund; rw [if_neg (Finset.ne_of_mem_erase hc)]; rfl, BI.bigSep_emp_const]
  unfold fund; rw [if_pos rfl]
  exact BI.equiv_iff.mp BI.sep_emp

/-- The barrier semaphore is the only one that outlives the call. -/
theorem barrier_only : ∀ sm : SemLoc sig, sm.isScoped .tc = false → sm = .reg barS := by decide
/-- So a device starts with that one counter. -/
theorem own_counters (c : Dev nD) : (unscopedSems0 c : sProp 𝕄) = semVal (cell c none) 0 := by
  unfold unscopedSems0
  rw [show (Finset.univ.filter fun sm : SemLoc sig => ¬ sm.isScoped .tc) = {SemLoc.reg barS} from by decide, BI.bigSep_singleton]

/-- What rides along to the call. -/
def ride (c : Dev nD) : sProp 𝕄 := iprop(Tk m c ∗ (∃ r, prngReg c r) ∗ ∃ W, owes (c : Thread nD τ) (owed₀ c) W)
abbrev V₀ (c : Dev nD) : Valuation τ sig (Elt F) := fun b => m (c, b)
abbrev T₀ (c : Dev nD) : sProp 𝕄 := iprop(StableHlo.held (c : Thread nD τ) ucs (V₀ m c) ∗ ride m c)
abbrev Tₙ (c : Dev nD) : sProp 𝕄 := iprop(StableHlo.held (c : Thread nD τ) ucs (V₂ m c) ∗ semVal (cell c none) 0)

/-- A device's launch holdings apart from the cells. -/
def bundle (c : Dev nD) : sProp 𝕄 :=
  iprop(StableHlo.held (c : Thread nD τ) ucs (V₀ m c) ∗ (cred (tallyAt (cell c none) () 2) ∗ creds c 1 ∗ creds c 3)
    ∗ owes (c : Thread nD τ) (owed₀ c) ∅ ∗ ∃ r, prngReg c r)
/-- What it gets of the cells' funding. -/
def dealt (c : Dev nD) : sProp 𝕄 := iprop(atPos (ER (F := F)) (cell c none) 0 ∅ 0 ∗ sealedCells c ∗ pays c)
/-- What everyone gets of it. -/
def known (κ : GSem nD τ sig → ℕ) : sProp 𝕄 := iprop(ctx m κ ∗ bigSep barCells fun g => reached (ER (F := F)) g 0)
/-- What every device knows may be used any number of times. -/
instance known_persistent (κ : GSem nD τ sig → ℕ) : BI.Persistent (known m κ) := by unfold known; infer_instance

/-- The barrier cell of a device has reached its first round. -/
theorem bar_reached (c : Dev nD) : (bigSep barCells fun g => (reached (ER (F := F)) g 0 : sProp 𝕄)) ⊢ reached (ER (F := F)) (cell c none) 0 :=
  bigSep_elim (Finset.mem_map_of_mem barEmb (Finset.mem_univ c))

/-- What a device knows and is dealt is what it starts from. -/
theorem start (κ : GSem nD τ sig → ℕ) (c : Dev nD) : iprop(known m κ ∗ (dealt c ∗ bundle m c)) ⊢ T₀ m c := by
  unfold known dealt pays bundle T₀ ride Tk atBarrier copies
  iintro ⟨⟨#Hctx, #HR⟩, ⟨Hat, Hseal, Htx, Hty, H0, H1, H2, H3⟩, Hh, ⟨HcB, Hc1, Hc3⟩, HO, Hp⟩
  isplitl [Hh]; · iexact Hh
  isplitr [HO Hp]
  · iexists κ
    isplitr; · iexact Hctx
    isplitl [Hat HcB Htx Hty]
    · isplitl [Hat]; · iexact Hat
      isplitl [HcB]; · iexact HcB
      isplitl [Htx]
      · isplitl [Htx]; · iexact Htx
        iapply (bar_reached (F := F) (xDev c)); iexact HR
      isplitl [Hty]; · iexact Hty
      iapply (bar_reached (F := F) (yDev c)); iexact HR
    isplitl [Hseal]; · iexact Hseal
    isplitl [H0 H1 H2 H3]
    · isplitl [H0]; · iexact H0
      isplitl [H1]; · iexact H1
      isplitl [H2] <;> iassumption
    isplitl [Hc1] <;> iassumption
  isplitl [Hp]; · iexact Hp
  iexists ∅; iexact HO

/-- Funding: the barrier cells from their counters, the DMA cells sealed until the call brings theirs. -/
theorem init :
    iprop((bigSep Finset.univ fun c : Dev nD => iprop(unscopedBufs c (fun b => m ((c : Thread nD τ).loc b)) ∗ unscopedSems0 c
          ∗ owes (c : Thread nD τ) (owed₀ c) ∅ ∗ Pipeline.launchCred owed₀ c ∗ prngReg c (ρ c) ∗ fund c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (owed₀ c) ∅ ∗ Pipeline.launchCred owed₀ c ∗ prngReg c (ρ c) ∗ fund c)
      ⊢ (iprop(bundle m c ∗ (semVal (cell c none) 0 ∗ fund c)) : sProp 𝕄) := by
    rw [show unscopedBufs c (fun b => m ((c : Thread nD τ).loc b)) = StableHlo.held (c : Thread nD τ) ucs (V₀ m c) from Pipeline.unscopedBufs_held c (V₀ m c),
      own_counters]
    unfold bundle
    iintro ⟨Hh, Hus, HO, Hcr, Hp, HG⟩
    ihave Hc := (credits (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hcores : (bigSep Finset.univ fun c : Dev nD => iprop(unscopedBufs c (fun b => m ((c : Thread nD τ).loc b)) ∗ unscopedSems0 c
        ∗ owes (c : Thread nD τ) (owed₀ c) ∅ ∗ Pipeline.launchCred owed₀ c ∗ prngReg c (ρ c) ∗ fund c))
      ⊢ (iprop((bigSep Finset.univ fun c : Dev nD => bundle m c) ∗ (bigSep barCells fun g => semVal g 0)
          ∗ BI.own ((ER (F := F)) (launchOf barCells dmaCells tokens))) : sProp 𝕄) := by
    refine BIBase.Entails.trans (bigSep_mono fun c _ => hcore c) ?_
    unfold barCells
    rw [bigSep_sep', bigSep_sep', fund_whole, bigSep_map (s := Finset.univ) barEmb (Φ := fun g : GSem nD τ sig => (semVal g 0 : sProp 𝕄))]
    exact Entails.refl _
  have hat : bigSep barCells (fun g => (atPos (ER (F := F)) g 0 ∅ 0 : sProp 𝕄)) ⊢ bigSep Finset.univ (fun c : Dev nD => (atPos (ER (F := F)) (cell c none) 0 ∅ 0 : sProp 𝕄)) :=
    Entails.of_eq (bigSep_map (s := Finset.univ) barEmb (Φ := fun g : GSem nD τ sig => (atPos (ER (F := F)) g 0 ∅ 0 : sProp 𝕄)))
  have hseal : bigSep dmaCells (fun g => (openTok (ER (F := F)) g : sProp 𝕄)) ⊢ bigSep Finset.univ (fun c : Dev nD => (sealedCells c : sProp 𝕄)) :=
    Entails.of_eq (by unfold dmaCells sealedCells; rw [bigSep_map, bigSep_univ_prod]; rfl)
  have hdealt : iprop((bigSep Finset.univ fun c : Dev nD => atPos (ER (F := F)) (cell c none) 0 ∅ 0) ∗ (bigSep Finset.univ fun c : Dev nD => sealedCells c)
      ∗ (bigSep Finset.univ fun c : Dev nD => pays c) ∗ (bigSep Finset.univ fun c : Dev nD => bundle m c))
      ⊢ (bigSep Finset.univ fun c : Dev nD => iprop(dealt c ∗ bundle m c) : sProp 𝕄) := by
    unfold dealt
    rw [bigSep_sep', bigSep_sep', bigSep_sep', regroup, regroup]
  iintro ⟨H, #Hlev⟩
  ihave H1 := hcores $$ H
  icases H1 with ⟨HB, Hv, Hu⟩
  imod (Rounds.fund_launch (ER (F := F)) (sched m) disjoint_cells (fun g _ h => h) tokens) $$ [Hv Hu] with ⟨%κ, -, #Hinv, #Hr, Hat, Hopen, Htok⟩
  · isplitl [Hv] <;> iassumption
  imodintro
  iapply (bigSep_with_persistent (R := known m κ) (Φ := fun c => iprop(dealt c ∗ bundle m c)) fun c _ => start m κ c)
  isplitr
  · unfold known ctx
    isplitr
    · isplitr; · iexact Hinv
      iexact Hlev
    iexact Hr
  iapply hdealt
  isplitl [Hat]; · iapply hat $$ Hat
  isplitl [Hopen]; · iapply hseal $$ Hopen
  isplitl [Htok]; · iapply (tokens_dealt (F := F)) $$ Htok
  iexact HB

/-! ## The run -/

/-- The host operations touch only buffers that outlive the call. -/
theorem ops_unscoped : ∀ op ∈ (hostOps0 : List (HloOp τ sig (Elt F))), op.bufs ⊆ ucs := fun op h => Pipeline.sub_ucRefs op (List.forall_iff_forall_mem.mp hostOps0_sub op h)

local notation "ℍ" => Pipeline.HostSeg (Name := ℕ) (U := UU) (pcfgs (F := F)) defs₀ 𝒱₀ L lv
/-- The host's two reshapes before the call. -/
def host : ℍ := Pipeline.HostSeg.ofOps _ _ _ _ _ ucs hostOps0 ops_unscoped (List.forall_iff_forall_mem.mp hostOps0_fresh) (V₀ m) (ride m)
/-- The program: its host operations, then the call. -/
def segs : List (Pipeline.Seg (pcfgs (F := F)) adm (pdats m) () defs₀ 𝒱₀ L lv) := [.host (host m), .region (reg m)]
/-- The printed host program is those two segments. -/
theorem main_eq (c : Dev nD) : main (F := F) c = Pipeline.Seg.run (segs m) :=
  main_segs adm (pdats m) () 𝒱₀ L lv (host m) (reg m) rfl c

/-- The operands and the result of the call outlive it. -/
theorem arrays_unscoped : Pipeline.arrRefs (τ := τ) spec0 ⊆ ucs := Pipeline.arrRefs_sub_ucRefs spec0 (by decide)

/-- What the host operations leave is what the call starts from. -/
theorem into_call (c : Dev nD) : iprop(StableHlo.held (c : Thread nD τ) ucs (V₁ m c) ∗ ride m c) ⊢ (reg m).pre c := by
  have h : iprop(StableHlo.held (c : Thread nD τ) ucs (V₁ m c) ∗ ride m c)
      ⊢ (iprop(StableHlo.held (c.tc : Thread nD τ) (Pipeline.arrRefs (τ := τ) spec0) (V₁ m c) ∗ (∃ r, prngReg c r)
        ∗ (StableHlo.held (c.tc : Thread nD τ) rest (V₁ m c) ∗ emp) ∗ Tk m c ∗ ∃ Wd, owes (c : Thread nD τ) (0 + owed₀ c) Wd) : sProp 𝕄) := by
    rw [StableHlo.held_sub_split (c.tc : Thread nD τ) arrays_unscoped (V₁ m c), zero_add]
    unfold ride
    iintro ⟨⟨Ha, Hr⟩, HT, Hp, HO⟩
    isplitl [Ha]; · iexact Ha
    isplitl [Hp]; · iexact Hp
    isplitl [Hr]
    · isplitl [Hr]; · iexact Hr
      iempintro
    isplitl [HT] <;> iassumption
  exact h
/-- What the call leaves is what the program ends with. -/
theorem from_call (c : Dev nD) : (reg m).post c ⊢ iprop(Tₙ m c ∗ ∃ W, owes (c : Thread nD τ) (0 : CellTallies nD τ sig Unit) W) := by
  have h : (iprop(StableHlo.held (c.tc : Thread nD τ) (Pipeline.arrRefs (τ := τ) spec0) (V₂ m c) ∗ (∃ r, prngReg c r)
        ∗ (StableHlo.held (c.tc : Thread nD τ) rest (V₂ m c) ∗ emp) ∗ Yk c ∗ ∃ Wd, owes (c : Thread nD τ) (0 : CellTallies nD τ sig Unit) Wd) : sProp 𝕄)
      ⊢ iprop(Tₙ m c ∗ ∃ W, owes (c : Thread nD τ) (0 : CellTallies nD τ sig Unit) W) := by
    unfold Tₙ Yk
    rw [StableHlo.held_sub_split (c.tc : Thread nD τ) arrays_unscoped (V₂ m c)]
    iintro ⟨Ha, -, ⟨Hr, -⟩, HY, HO⟩
    isplitr [HO]
    · isplitl [Ha Hr]
      · isplitl [Ha] <;> iassumption
      iexact HY
    iexact HO
  exact h

/-- The result and the arguments outlive the call. -/
theorem main_unscoped : Proc.devRef .tc main_v3 ∈ (ucs : Finset (DevRef τ sig)) ∧ Proc.devRef .tc main_arg0 ∈ (ucs : Finset (DevRef τ sig))
    ∧ Proc.devRef .tc main_arg1 ∈ (ucs : Finset (DevRef τ sig)) ∧ Proc.devRef .tc main_arg2 ∈ (ucs : Finset (DevRef τ sig)) := by decide

/-- Held buffers are what memory holds. -/
theorem held_reads (c : Dev nD) (W : Valuation τ sig (Elt F)) (s : Phys nD τ sig (Elt F)) (S : Finset (DevRef τ sig)) :
    (iprop(StableHlo.held (c : Thread nD τ) S W ∗ SI s) : sProp 𝕄) ⊢ iprop(⌜∀ b ∈ S, s.mem.mem (c, b) = W b⌝ ∗ SI s) := by
  classical
  induction S using Finset.induction_on with
  | empty =>
    iintro ⟨-, HSI⟩
    isplitr; · ipureintro; exact fun _ h => absurd h (Finset.notMem_empty _)
    iexact HSI
  | insert b S hb ih =>
    unfold StableHlo.held at ih ⊢
    rw [BI.bigSep_insert hb]
    show iprop((((c, b) ↦{fullShare} W b) ∗ bigSep S fun b => ((c, b) ↦{fullShare} W b)) ∗ SI s) ⊢ (_ : sProp 𝕄)
    iintro ⟨⟨Hb, HS⟩, HSI⟩
    icombine HSI Hb gives %hx
    ihave H := ih $$ [HS HSI]
    · isplitl [HS] <;> iassumption
    icases H with ⟨%h, HSI⟩
    isplitr
    · ipureintro
      intro b' hb'
      rcases Finset.mem_insert.mp hb' with rfl | hb'
      · exact Buf.eq_of_forall_mem_univ hx
      · exact h b' hb'
    iexact HSI

/-- The result after the call is `outAt`, and the arguments are what they were. -/
theorem V₂_result (c : Dev nD) : V₂ m c (Proc.devRef .tc main_v3) = outAt m c := by
  refine (V₂_arr m c 3).symm.trans ?_
  exact (dat m c).arrAt_eq_of_after_last 3 t0_0 (by decide +kernel) (outAt m c) fun j => rfl
/-- The arguments are as they were launched. -/
theorem V₂_args (c : Dev nD) : V₂ m c (Proc.devRef .tc main_arg0) = m (c, Proc.devRef .tc main_arg0)
    ∧ V₂ m c (Proc.devRef .tc main_arg1) = m (c, Proc.devRef .tc main_arg1) ∧ V₂ m c (Proc.devRef .tc main_arg2) = m (c, Proc.devRef .tc main_arg2) := by
  refine ⟨?_, ?_, ?_⟩
  · exact (Pipeline.afterRegion_of_not_arr (dat m c) (V₁ m c) (b := main_arg0) (by decide)).trans (V_main_arg0 m c)
  · exact (V₂_arr m c 1).symm.trans (((dat m c).arrAt_in 1 rfl _).trans (V_main_arg1 m c))
  · exact (Pipeline.afterRegion_of_not_arr (dat m c) (V₁ m c) (b := main_arg2) (by decide)).trans (V_main_arg2 m c)

set_option backward.isDefEq.respectTransparency.types false in
/-- The run: from any memory with zero counters every fair execution ends, with the result at `outAt` on every device, the
    arguments as they were and every counter at zero. -/
theorem run_main : θ_run (Cert.KernelIdeal.defs (F := F)) (onTc (τ := τ) (main (F := F))) ⟨m, fun _ => 0, ρ⟩
    (fun r => (∀ c : Dev nD, r.2.mem ((c : Thread nD τ).loc main_v3) = outAt m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)) ∧ r.2.sem = fun _ => 0) :=
  Pipeline.θ_run_regions_kit_sems (pcfgs (F := F)) adm (pdats m) () (launch0.toP.cellOf_inj adm) EP defs₀ 𝒱₀ L lv m ρ main (segs m)
    (fun c Q => by rw [main_eq m c])
    (by simp only [segs, Pipeline.Seg.pipes_host, Pipeline.Seg.pipes_region, Pipeline.Seg.pipes_nil]; decide)
    (O₀ := owed₀) (hL := L_of_ne) (G := fund) (u₀ := u₀)
    (hu₀ := by
      unfold u₀
      iintro Hu
      ihave H := (ownU_pair _ _) $$ Hu
      icases H with ⟨HP, HX⟩
      imodintro
      isplitl [HP]; · iexact HP
      rw [fund_whole]; iexact HX)
    (T₀ := T₀ m) (Tₙ := Tₙ m)
    (hch := ⟨fun c => .rfl, fun c => into_call m c, fun c => from_call m c⟩)
    (hinit := init m ρ)
    (QY := fun c s => (∀ b ∈ (ucs : Finset (DevRef τ sig)), s.mem (c, b) = V₂ m c b) ∧ s.sem (cell c none) = 0)
    (hfin := fun c s' => by
      dsimp only [Tₙ]
      iintro ⟨⟨Hh, Hb⟩, HSI⟩
      icombine HSI Hb gives %hb
      ihave H := (held_reads c (V₂ m c) s' ucs) $$ [Hh HSI]
      · isplitl [Hh] <;> iassumption
      icases H with ⟨%h, HSI⟩
      imodintro
      isplitr
      · ipureintro
        exact ⟨h, by simpa using hb⟩
      iexact HSI)
    (hQ := fun s h hs => ⟨fun c => by
        obtain ⟨hm, -⟩ := h c
        obtain ⟨h0, h1, h2⟩ := V₂_args m c
        exact ⟨(hm _ main_unscoped.1).trans (V₂_result m c), (hm _ main_unscoped.2.1).trans h0, (hm _ main_unscoped.2.2.1).trans h1, (hm _ main_unscoped.2.2.2).trans h2⟩,
      sem_eq_zero hs fun c sm hsm => by
        obtain rfl := barrier_only sm hsm
        exact (h c).2⟩)

end Cert.AllReduceNorm

end

end
-- ==== Proof.Reference.lean ====
/-
  The reference over the extended reals, at a row and a column: the sum of the row's two partials and the residual,
  divided by the square root of the mean of its squares plus a constant, times the scale.  With it the arithmetic of
  one row: multiplying by the reciprocal square root is dividing by the square root, since the number under the root
  is positive or `⊤` whatever the row holds.
-/
module

public import proofs.«01_k».proof.Proof.Gen.ReferenceIdeal.Run
public import Idealize.ShloMosaic.Lib.Pointwise

@[expose] public section

noncomputable section

namespace Cert.AllReduceNorm

open Cert.ReferenceIdeal Cert.ReferenceIdeal.Gen
open Idealize.ShloMosaic Idealize.ShloMosaic.TcCoe Idealize.SL.Sem

/-! ## One row -/

/-- The number of columns and the constant added to the mean, as the two programs write them. -/
abbrev width : EReal := Ideal.ofBits .f32 0x44000000#32
abbrev eps : EReal := Ideal.ofBits .f32 0x358637BD#32

/-- The mean of the squares of a row, plus the constant. -/
def meanSq (y : Fin 512 → EReal) : EReal := Ideal.div (∑ k, y k * y k) width + eps

/-- The number of columns is a positive real, -/
theorem width_pos : ∃ r : ℝ, 0 < r ∧ width = (r : EReal) :=
  ⟨512, by norm_num, by simp [width, Ideal.ofBits, Ideal.ieee]; rw [← EReal.coe_mul]; norm_num⟩
/-- and the constant is positive. -/
theorem eps_pos : (0 : EReal) < eps := by
  simp [eps, Ideal.ofBits, Ideal.ieee]
  rw [← EReal.coe_mul, EReal.coe_pos]; positivity

/-- A square is not negative, and so neither is a sum of squares. -/
theorem sq_nonneg' (a : EReal) : 0 ≤ a * a := by
  rcases le_total 0 a with h | h
  · exact mul_nonneg h h
  · exact EReal.mul_nonneg_iff.mpr (Or.inr ⟨h, h⟩)

/-- The mean of the squares of any row plus the constant is positive. -/
theorem meanSq_pos (y : Fin 512 → EReal) : 0 < meanSq y := by
  obtain ⟨r, hr, hw⟩ := width_pos
  unfold meanSq
  rw [hw, Ideal.div_coe hr.ne']
  refine lt_of_lt_of_le eps_pos (le_add_of_nonneg_left (mul_nonneg (Finset.sum_nonneg fun k _ => sq_nonneg' _) ?_))
  exact_mod_cast (one_div_pos.mpr hr).le

/-- Above zero, multiplying by the reciprocal square root is dividing by the square root. -/
theorem mul_rsqrt (a s : EReal) (hs : 0 < s) : a * Ideal.rsqrt s = Ideal.div a (Ideal.sqrt s) := by
  induction s with
  | bot => exact absurd hs (by simp)
  | top => simp [Ideal.rsqrt_top, Ideal.sqrt_top, Ideal.div]
  | coe r =>
    have hr : 0 < r := by exact_mod_cast hs
    rw [Ideal.rsqrt_coe, Ideal.sqrt_coe, if_neg hr.not_gt, if_neg hr.ne', if_neg hr.not_gt,
      Ideal.div_coe (Real.sqrt_pos.mpr hr).ne', one_div]

/-! ## The reference's result at a row and a column -/

/-- Row `r` of the reference's sum. -/
def refRow (x : FVec Ideal S2x512x512 .f32) (b : FVec Ideal S512x512 .f32) (r k : Fin 512) : EReal :=
  (x (ix3 0 r k) + x (ix3 1 r k)) + b (ix2 r k)

/-- The reference's sum over the two partials and the residual. -/
def refSum (x : FVec Ideal S2x512x512 .f32) (b : FVec Ideal S512x512 .f32) : FVec Ideal S512x512 .f32 :=
  addf (Host.reduceAdd x (constant S_ .f32 0x00000000#32) reducesTo_S2x512x512_S512x512_d0 h_S_) b
/-- What the reference's operations compute of its three arguments. -/
def refOut (x : FVec Ideal S2x512x512 .f32) (b : FVec Ideal S512x512 .f32) (g : FVec Ideal S512 .f32) : FVec Ideal S512x512 .f32 :=
  mulf (Host.divf (refSum x b) (broadcastInDim S512x512 ![0, 1] bcast_S512x1_S512x512_0_1 (Host.sqrt (addf
      (Host.divf (broadcastInDim S512x1 ![0] bcast_S512_S512x1_0
          (Host.reduceAdd (mulf (refSum x b) (refSum x b)) (constant S_ .f32 0x00000000#32) reducesTo_S512x512_S512_d1 h_S_))
        (broadcastInDim S512x1 ![] bcast_S_S512x1 (constant S_ .f32 0x44000000#32)))
      (broadcastInDim S512x1 ![] bcast_S_S512x1 (constant S_ .f32 0x358637BD#32))))))
    (broadcastInDim S512x512 ![0, 1] bcast_S1x512_S512x512_0_1 (broadcastInDim S1x512 ![1] bcast_S512_S1x512_1 g))

/-- The sum at a row and a column. -/
theorem refSum_apply (x : FVec Ideal S2x512x512 .f32) (b : FVec Ideal S512x512 .f32) (r k : Fin 512) :
    refSum x b (ix2 r k) = refRow x b r k := by
  pointwise [refSum, refRow]
  rw [Fin.sum_univ_two]

/-- The reference's result at a row and a column. -/
theorem refOut_apply (x : FVec Ideal S2x512x512 .f32) (b : FVec Ideal S512x512 .f32) (g : FVec Ideal S512 .f32) (r l : Fin 512) :
    refOut x b g (ix2 r l) = Ideal.div (refRow x b r l) (Ideal.sqrt (meanSq (refRow x b r))) * g (ix1 l) := by
  unfold meanSq
  simp only [← refSum_apply]
  generalize hy : refSum x b = y
  unfold refOut
  rw [hy]
  pointwise

/-- Every run of the reference ends with `refOut` of its arguments, and the arguments as they were. -/
theorem run_reference (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ fun r => ∀ c : Dev nD,
      r.2.mem ((c.tc : Thread nD τ).loc main_v14)
          = refOut (m ((c.tc : Thread nD τ).loc main_arg0)) (m ((c.tc : Thread nD τ).loc main_arg1)) (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) :=
  Cert.ReferenceIdeal.Value.run m ρ

end Cert.AllReduceNorm

end

end
-- ==== Proof.Value.lean ====
/-
  The value of the kernel over the extended reals: on every device the result array is the reference's result.

  Both programs normalize one row at a time.  The row is `y = x₀ + x₁ + r`, the two partials and the residual; the
  kernel multiplies it by the reciprocal square root of the mean of its squares plus a constant, the reference divides
  it by the square root of the same number.  That number is positive or `⊤`, whatever the row holds, and there the two
  agree.  The kernel adds the terms of a row in another order than the reference, and over the extended reals the
  order of a sum makes no difference.
-/
module

public import proofs.«01_k».proof.Proof.Launch
public import proofs.«01_k».proof.Proof.Reference
public import Idealize.ShloMosaic.Lib.Pointwise
public import Idealize.ShloMosaic.Lib.Claim

@[expose] public section

noncomputable section

namespace Cert.AllReduceNorm

open Cert.KernelIdeal Cert.KernelIdeal.Gen
open Idealize.ShloMosaic Idealize.ShloMosaic.TcCoe Idealize.SL.Sem

/-! ## The kernel's result at a row and a column -/

/-- Row `j 0` of a block, normalized: the sum of the rows handed over, times the reciprocal square root, times the scale. -/
theorem normRows_apply (p : Vec Ideal S32x512 .f32) (w : Vec Ideal S32x512 .bf16) (g : Vec Ideal S1x512 .f32) (r : Fin 32) (l : Fin 512) :
    normRows p w g (ix2 r l)
      = (p (ix2 r l) + w (ix2 r l)) * Ideal.rsqrt (meanSq fun k => p (ix2 r k) + w (ix2 r k)) * g (ix2 0 l) := by
  unfold meanSq
  pointwise [normRows, k0_pay3]

variable (m : (ℓ : Loc nD τ sig) → Buf (Elt Ideal) ℓ)

/-- The two reshapes before the call, at an index. -/
theorem dropUnit_apply (x : S1x512x512.Idx → EReal) (i : S512x512.Idx) :
    shapeCast S512x512 x shapeCasts_S1x512x512_S512x512 i = x (ix3 0 (i 0) (i 1)) := by
  pointwise
/-- The reshape of the scale, at an index. -/
theorem addUnit_apply (x : S512.Idx → EReal) (l : Fin 512) :
    shapeCast S1x512 x shapeCasts_S512_S1x512 (ix2 0 l) = x (ix1 l) := by
  pointwise

/-- The three arguments of a device, at their indices. -/
def xArg (c : Dev nD) (r k : Fin 512) : EReal := (show S1x512x512.Idx → EReal from m ((c : Thread nD τ).loc main_arg0)) (ix3 0 r k)
/-- The residual of device `c` at a row and a column. -/
def rArg (c : Dev nD) (r k : Fin 512) : EReal := (show S512x512.Idx → EReal from m ((c : Thread nD τ).loc main_arg1)) (ix2 r k)
/-- The scale of device `c` at a column. -/
def gArg (c : Dev nD) (k : Fin 512) : EReal := (show S512.Idx → EReal from m ((c : Thread nD τ).loc main_arg2)) (ix1 k)

/-- The operands the body finds are the launched arguments, reshaped. -/
theorem xIn_apply (c : Dev nD) (r k : Fin 512) : xIn m c (ix2 r k) = xArg m c r k := by
  have e : xIn m c (ix2 r k) = V m c main_v1 (ix2 r k) := by
    show V m c main_v1 _ = _
    refine congrArg (V m c main_v1) (funext fun a => Fin.ext ?_)
    match a with
    | 0 => show 0 + 1 * r.val = r.val; omega
    | 1 => show 0 + 1 * k.val = k.val; omega
  have h : V m c main_v1 = shapeCast S512x512 (m ((c : Thread nD τ).loc main_arg0)) shapeCasts_S1x512x512_S512x512 := by
    entry_read
    rfl
  rw [e, h]
  exact dropUnit_apply _ (ix2 r k)
/-- The residual that the body finds is the launched one, -/
theorem rIn_apply (c : Dev nD) (r k : Fin 512) : rIn m c (ix2 r k) = rArg m c r k := by
  have e : rIn m c (ix2 r k) = V m c main_arg1 (ix2 r k) := by
    show V m c main_arg1 _ = _
    refine congrArg (V m c main_arg1) (funext fun a => Fin.ext ?_)
    match a with
    | 0 => show 0 + 1 * r.val = r.val; omega
    | 1 => show 0 + 1 * k.val = k.val; omega
  rw [e, V_main_arg1]
  rfl
/-- and so is the scale. -/
theorem gIn_apply (c : Dev nD) (k : Fin 512) : gIn m c (ix2 0 k) = gArg m c k := by
  have e : gIn m c (ix2 0 k) = V m c main_v2 (ix2 0 k) := by
    show V m c main_v2 _ = _
    refine congrArg (V m c main_v2) (funext fun a => Fin.ext ?_)
    match a with
    | 0 => rfl
    | 1 => show 0 + 1 * k.val = k.val; omega
  have h : V m c main_v2 = shapeCast S1x512 (m ((c : Thread nD τ).loc main_arg2)) shapeCasts_S512_S1x512 := by
    entry_read
    rfl
  rw [e, h]
  exact addUnit_apply _ k

/-- The device whose chunk completes row `r` on device `c`. -/
def mate (c : Dev nD) (r : Fin 512) : Dev nD := src c ⟨r.val / 32, by omega⟩
/-- Row `r` of a device's sum, in the order the device adds it. -/
def rowAt (c : Dev nD) (r k : Fin 512) : EReal := (xArg m c r k + rArg m c r k) + xArg m (mate c r) r k

/-- The rows of block `r / 32` before and after the exchange, at row `r % 32` of it. -/
theorem row_sum (c : Dev nD) (r l k : Fin 512) :
    blkOf (preV m c) (rowQ (ix2 r l)) (rowJ (ix2 r k))
      + (truncf .bf16 (blkOf (xIn m (src c (rowQ (ix2 r l)))) (rowQ (ix2 r l))) bitsLt_bf16_f32 : FVec Ideal S32x512 .bf16) (rowJ (ix2 r k))
      = rowAt m c r k := by
  have e : (blkRect (rowQ (ix2 r l))).emb (rowJ (ix2 r k)) = ix2 r k := emb_row (ix2 r k)
  have hp : preV m c (ix2 r k) = xIn m c (ix2 r k) + rIn m c (ix2 r k) := by
    pointwise [preV, k0_pay2]
  show preV m c ((blkRect (rowQ (ix2 r l))).emb (rowJ (ix2 r k))) + xIn m (mate c r) ((blkRect (rowQ (ix2 r l))).emb (rowJ (ix2 r k))) = _
  rw [e, hp, xIn_apply, rIn_apply, xIn_apply]
  rfl

/-- The result of a device at a row and a column. -/
theorem outAt_apply (c : Dev nD) (r l : Fin 512) :
    outAt m c (ix2 r l) = rowAt m c r l * Ideal.rsqrt (meanSq (rowAt m c r)) * gArg m c l := by
  have hJ (k : Fin 512) : rowJ (ix2 r k) = ix2 ⟨r.val % 32, Nat.mod_lt _ (by decide)⟩ k := by
    funext a
    match a with
    | 0 => rfl
    | 1 => rfl
  have hy (k : Fin 512) := row_sum m c r l k
  simp only [hJ] at hy
  unfold outAt valAt
  rw [hJ l, normRows_apply, gIn_apply]
  simp only [hy]

/-! ## The two agree -/

/-- The first mesh coordinate of a device is zero or one. -/
theorem half_lt (d : Dev nD) : d.val / 8 < 2 := by have h : d.val < 16 := d.isLt; omega
/-- The devices whose partials complete a row are on the two sides of the first mesh axis. -/
theorem mate_half (c : Dev nD) (r : Fin 512) : (mate c r).val / 8 = 1 - c.val / 8 := by
  have hx : ∀ d : Dev nD, (xDev d).val / 8 = 1 - d.val / 8 := by decide +kernel
  have hy : ∀ d : Dev nD, (yDev d).val / 8 = d.val / 8 := by decide +kernel
  unfold mate src
  split
  · exact hx c
  · rw [hx, hy]

/-- When every device holds its block of `x` and all of the residual and the scale, every device's result is the reference's. -/
theorem outAt_eq_refOut (x : FVec Ideal Cert.ReferenceIdeal.S2x512x512 .f32) (b : FVec Ideal Cert.ReferenceIdeal.S512x512 .f32)
    (g : FVec Ideal Cert.ReferenceIdeal.S512 .f32) (c : Dev nD)
    (hx : ∀ (d : Dev nD) (r k : Fin 512), xArg m d r k = x (ix3 ⟨d.val / 8, half_lt d⟩ r k))
    (hb : ∀ r k, rArg m c r k = b (ix2 r k)) (hg : ∀ k, gArg m c k = g (ix1 k)) :
    outAt m c = refOut x b g := by
  have hrow (r : Fin 512) : rowAt m c r = refRow x b r := by
    funext k
    have hm := mate_half c r
    have hc := half_lt c
    unfold rowAt refRow
    rw [hx, hb, hx]
    rcases Nat.lt_or_ge (c.val / 8) 1 with h | h
    · have h0 : (⟨c.val / 8, hc⟩ : Fin 2) = 0 := Fin.ext (by show c.val / 8 = 0; omega)
      have h1 : (⟨(mate c r).val / 8, half_lt _⟩ : Fin 2) = 1 := Fin.ext (by show (mate c r).val / 8 = 1; omega)
      rw [h0, h1, add_right_comm]
    · have h0 : (⟨c.val / 8, hc⟩ : Fin 2) = 1 := Fin.ext (by show c.val / 8 = 1; omega)
      have h1 : (⟨(mate c r).val / 8, half_lt _⟩ : Fin 2) = 0 := Fin.ext (by show (mate c r).val / 8 = 0; omega)
      rw [h0, h1, add_right_comm, add_comm (x (ix3 1 r k))]
  funext i
  obtain ⟨r, l, rfl⟩ : ∃ r l, i = ix2 r l := ⟨i 0, i 1, by funext a; match a with | 0 => rfl | 1 => rfl⟩
  rw [outAt_apply, refOut_apply, hrow, mul_rsqrt _ _ (meanSq_pos _), hg]

end Cert.AllReduceNorm

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Lib.Layout
public import Idealize.ShloMosaic.Lib.Quiescent
public import Idealize.ShloMosaic.Adequacy
public import Idealize.ShloMosaic.Init

@[expose] public section

noncomputable section

namespace Cert.Proof

open Idealize.ShloMosaic Idealize.SL.Sem Cert.AllReduceNorm

/-! ## The frames -/

/-- The kernel over machine numbers and its reading over the extended reals are one program: the same body, -/
theorem body_same : @Cert.Kernel.cc0_body Bits _ _ = @Cert.KernelIdeal.cc0_body Bits _ _ := rfl

/-- the same table of calls, -/
theorem calls_same : Cert.Kernel.defs₀ (F := Bits) = Cert.KernelIdeal.defs₀ (F := Bits) := by
  unfold Cert.Kernel.defs₀ Cert.KernelIdeal.defs₀
  refine congrArg Defs.onTc (funext fun l => funext fun x => ?_)
  match l, x with
  | 0, (t, s) =>
    dsimp only
    rw [body_same]
/-- the same table with the pipeline around each call, -/
theorem defs_same : Cert.Kernel.defs (F := Bits) = Cert.KernelIdeal.defs (F := Bits) := by
  unfold Cert.Kernel.defs Cert.KernelIdeal.defs
  rw [calls_same]
  rfl

/-- and the same host program. -/
theorem main_same : Cert.Kernel.main (F := Bits) = Cert.KernelIdeal.main (F := Bits) := rfl

/-- Every run of the kernel over machine numbers ends, with its arguments as they were and every counter at zero. -/
theorem frame_kernel : Cert.quiescent_Kernel := by
  intro m ρ _
  rw [defs_same, main_same]
  exact (θ_run Cert.KernelIdeal.defs _ _).mono (fun _ h => ⟨fun c => (h.1 c).2, h.2⟩) (run_main (F := Bits) m ρ)

/-- The same over the extended reals. -/
theorem frame_ideal : Cert.quiescent_KernelIdeal := fun m ρ _ =>
  (θ_run Cert.KernelIdeal.defs _ _).mono (fun _ h => ⟨fun c => (h.1 c).2, h.2⟩) (run_main (F := Ideal) m ρ)

/-- Every run of the reference ends, with its arguments as they were; it has no counter. -/
theorem frame_reference : Cert.quiescent_ReferenceIdeal := fun m ρ _ =>
  (θ_run Cert.ReferenceIdeal.defs _ _).mono (fun r h => ⟨fun c => (h c).2, sem_eq_zero_of_no_sems rfl r.2⟩) (run_reference m ρ)

/-! ## The value -/

/-- Device `d` holds the half of the first argument that its first mesh coordinate names. -/
theorem half_apply (x : (⟨3, ![2, 512, 512]⟩ : Shape).Idx → EReal) (d : Dev Cert.KernelIdeal.nD) (r k : Fin 512) :
    (Layout.blockN ⟨3, ![1, 512, 512]⟩ ⟨3, ![2, 512, 512]⟩ (Layout.meshBlock [2, 2, 4] ![[0], [], []] d) x) (ix3 (n0 := 1) 0 r k)
      = x (ix3 ⟨d.val / 8, half_lt d⟩ r k) := by
  refine congrArg x (funext fun a => Fin.ext ?_)
  rw [Layout.TilesN.idx_val]
  have hd : ∀ e : Dev Cert.KernelIdeal.nD, Layout.meshLin [2, 2, 4] e.val [0] = e.val / 8 := by decide +kernel
  match a with
  | 0 => show Layout.meshLin [2, 2, 4] d.val [0] * 1 + 0 = d.val / 8; rw [hd]; omega
  | 1 => show 0 * 512 + r.val = r.val; omega
  | 2 => show 0 * 512 + k.val = k.val; omega

/-- Over the extended reals every device ends with the reference's result. -/
theorem value : Cert.algebraic_KernelIdeal_ReferenceIdeal := by
  intro m g m' g' _ h
  refine ⟨_, (θ_run Cert.KernelIdeal.defs _ _).mono (fun r hr c => ⟨(hr.1 c).1.trans ?_, (hr.1 c).2⟩) (run_main (F := Ideal) m g),
    (θ_run Cert.ReferenceIdeal.defs _ _).mono (fun r hr => hr 0) (run_reference m' g')⟩
  refine outAt_eq_refOut m _ _ _ c (fun d r k => ?_) (fun r k => ?_) (fun k => ?_)
  · unfold xArg
    rw [(h d).1]
    exact half_apply _ d r k
  · unfold rArg
    rw [(h c).2.1]
  · unfold gArg
    rw [(h c).2.2]

/-- All five claims. -/
theorem claim : Cert.Claim :=
  ⟨Cert.Kernel.Gen.facts, Cert.KernelIdeal.Gen.facts, Cert.ReferenceIdeal.Gen.facts, frame_kernel, frame_ideal, frame_reference,
    trivial, value⟩

end Cert.Proof

end
